-- ==== Defs.lean ====
def Pre_Kernel [hPre_times_in_table : Cert.Pre_times_in_table.Facts] (m : (ℓ : Loc Cert.Kernel.nD Cert.Kernel.τ Cert.Kernel.sig) → Buf (Elt Bits) ℓ) : Prop :=
  ∀ c : Dev Cert.Kernel.nD,
    (Cert.Pre_times_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_times_in_table : Cert.Pre_times_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_times_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] [hPre_times_in_table : Cert.Pre_times_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_times_in_table : Cert.Pre_times_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v214) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_times_in_table : Cert.Pre_times_in_table.Facts) (hPre_in_range : Cert.Pre_in_range.Facts),
    quiescent_Kernel (hKernel := hKernel) (hPre_times_in_table := hPre_times_in_table)
    ∧ quiescent_KernelIdeal (hKernelIdeal := hKernelIdeal) (hPre_times_in_table := hPre_times_in_table)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16x2048 : Shape := ⟨2, ![16, 2048]⟩
abbrev S16 : Shape := ⟨1, ![16]⟩
abbrev S100x512x512 : Shape := ⟨3, ![100, 512, 512]⟩
abbrev S_ : Shape := ⟨0, ![]⟩

class Facts : Prop where
  bcast_S_S16x2048 : S_.BroadcastsInDim S16x2048 (![] : Fin 0 → Fin S16x2048.rank)
  reducesTo_S16x2048_S_d0_1 : S16x2048.ReducesTo [0, 1] S_
  h_S_ : 0 < S_.numel
  bcast_S_S16 : S_.BroadcastsInDim S16 (![] : Fin 0 → Fin S16.rank)
  reducesTo_S16_S_d0 : S16.ReducesTo [0] S_
  bcast_S_S100x512x512 : S_.BroadcastsInDim S100x512x512 (![] : Fin 0 → Fin S100x512x512.rank)
  reducesTo_S100x512x512_S_d0_1_2 : S100x512x512.ReducesTo [0, 1, 2] S_

variable [Facts]

def fn {F : FTy → Type} [FloatOps F] (main_arg0 : IVec S16x2048 32) (main_arg1 : IVec S16 32) (main_arg2 : FVec F S100x512x512 .f32) : IVec S_ 1 × IVec S_ 1 × IVec S_ 1 :=
  let main_c : IVec S_ 32 := constantI S_ 32 0#32
  let main_v0 : IVec S16x2048 32 := broadcastInDim S16x2048 ![] bcast_S_S16x2048 main_c
  let main_v1 : IVec S16x2048 1 := cmpi .sge main_arg0 main_v0
  let main_c_0 : IVec S_ 32 := constantI S_ 32 512#32
  let main_v2 : IVec S16x2048 32 := broadcastInDim S16x2048 ![] bcast_S_S16x2048 main_c_0
  let main_v3 : IVec S16x2048 1 := cmpi .slt main_arg0 main_v2
  let main_v4 : IVec S16x2048 1 := andi main_v1 main_v3
  let main_c_1 : IVec S_ 1 := constantI S_ 1 1#1
  let main_v5 : IVec S_ 1 := (fun x v => Host.reduce IntOp.andi x v reducesTo_S16x2048_S_d0_1 h_S_) main_v4 main_c_1
  let main_c_2 : IVec S_ 32 := constantI S_ 32 0#32
  let main_v6 : IVec S16 32 := broadcastInDim S16 ![] bcast_S_S16 main_c_2
  let main_v7 : IVec S16 1 := cmpi .sge main_arg1 main_v6
  let main_c_3 : IVec S_ 32 := constantI S_ 32 100#32
  let main_v8 : IVec S16 32 := broadcastInDim S16 ![] bcast_S_S16 main_c_3
  let main_v9 : IVec S16 1 := cmpi .slt main_arg1 main_v8
  let main_v10 : IVec S16 1 := andi main_v7 main_v9
  let main_c_4 : IVec S_ 1 := constantI S_ 1 1#1
  let main_v11 : IVec S_ 1 := (fun x v => Host.reduce IntOp.andi x v reducesTo_S16_S_d0 h_S_) main_v10 main_c_4
  let main_cst : FVec F S_ .f32 := constant S_ .f32 0x2B8CBCCC#32
  let main_v12 : FVec F S100x512x512 .f32 := broadcastInDim S100x512x512 ![] bcast_S_S100x512x512 main_cst
  let main_v13 : IVec S100x512x512 1 := cmpf .oge main_arg2 main_v12
  let main_c_5 : IVec S_ 1 := constantI S_ 1 1#1
  let main_v14 : IVec S_ 1 := (fun x v => Host.reduce IntOp.andi x v reducesTo_S100x512x512_S_d0_1_2 h_S_) main_v13 main_c_5
  (main_v5, main_v11, main_v14)
-- ==== Pre_times_in_table.lean ====
abbrev S16x2048 : Shape := ⟨2, ![16, 2048]⟩
abbrev S16 : Shape := ⟨1, ![16]⟩
abbrev S100x512x512 : Shape := ⟨3, ![100, 512, 512]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : IVec S16x2048 32) (main_arg1 : IVec S16 32) (main_arg2 : FVec F S100x512x512 .f32) : IVec S_ 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 32 := constantI S_ 32 100#32
  let main_v2 : IVec S16 32 := broadcastInDim S16 ![] bcast_S_S16 main_c_0
  let main_v3 : IVec S16 1 := cmpi .slt main_arg1 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  main_v5
-- ==== Kernel.lean ====
abbrev S16x2048 : Shape := ⟨2, ![16, 2048]⟩
abbrev S16 : Shape := ⟨1, ![16]⟩
abbrev S100x512x512 : Shape := ⟨3, ![100, 512, 512]⟩
abbrev S16x1x2048 : Shape := ⟨3, ![16, 1, 2048]⟩
abbrev S1x1x2048 : Shape := ⟨3, ![1, 1, 2048]⟩
abbrev S1x512x512 : Shape := ⟨3, ![1, 512, 512]⟩
abbrev S1 : Shape := ⟨1, ![1]⟩
abbrev S512x512 : Shape := ⟨2, ![512, 512]⟩
abbrev S128x512 : Shape := ⟨2, ![128, 512]⟩
abbrev S1x1x128 : Shape := ⟨3, ![1, 1, 128]⟩
abbrev S128 : Shape := ⟨1, ![128]⟩
abbrev S128x1 : Shape := ⟨2, ![128, 1]⟩

abbrev nBuf : Space → Nat
  | .hbm => 5
  | .vmem => 6
  | .smem => 1
  | _ => 0

abbrev bufTy : (tb : Table) → Fin (tcTables nBuf tb) → BufTy
  | .hbm, ⟨0, _⟩ => ⟨S16x2048, .i32⟩
  | .hbm, ⟨1, _⟩ => ⟨S100x512x512, .f32⟩
  | .hbm, ⟨2, _⟩ => ⟨S16x1x2048, .i32⟩
  | .hbm, ⟨3, _⟩ => ⟨S16x1x2048, .i32⟩
  | .hbm, ⟨4, _⟩ => ⟨S16x2048, .i32⟩
  | .local _ .vmem, ⟨0, _⟩ => ⟨S1x1x2048, .i32⟩
  | .local _ .vmem, ⟨1, _⟩ => ⟨S1x1x2048, .i32⟩
  | .local _ .vmem, ⟨2, _⟩ => ⟨S1x512x512, .f32⟩
  | .local _ .vmem, ⟨3, _⟩ => ⟨S1x512x512, .f32⟩
  | .local _ .vmem, ⟨4, _⟩ => ⟨S1x1x2048, .i32⟩
  | .local _ .vmem, ⟨5, _⟩ => ⟨S1x1x2048, .i32⟩
  | .local _ .smem, ⟨0, _⟩ => ⟨S16, .i32⟩
  | _, _ => ⟨S16x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 1], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S16x2048 : Shape := ⟨2, ![16, 2048]⟩
abbrev S16 : Shape := ⟨1, ![16]⟩
abbrev S100x512x512 : Shape := ⟨3, ![100, 512, 512]⟩
abbrev S_ : Shape := ⟨0, ![]⟩
abbrev S16x1 : Shape := ⟨2, ![16, 1]⟩
abbrev S16x512x512 : Shape := ⟨3, ![16, 512, 512]⟩
abbrev S16x2048x1 : Shape := ⟨3, ![16, 2048, 1]⟩
abbrev S1x1x512 : Shape := ⟨3, ![1, 1, 512]⟩
abbrev S16x2048x512 : Shape := ⟨3, ![16, 2048, 512]⟩

abbrev nBuf : Space → Nat
  | .hbm => 296
  | .vmem => 0
  | .smem => 0
  | _ => 0

abbrev hbmTy0_0 (i : Nat) : BufTy := match i % 128 with
  | 0 => ⟨S16x2048, .i32⟩
  | 1 => ⟨S16, .i32⟩
  | 2 => ⟨S100x512x512, .f32⟩
  | 3 => ⟨S_, .i32⟩
  | 4 => ⟨S16, .i32⟩
  | 5 => ⟨S16, .i1⟩
  | 6 => ⟨S_, .i32⟩
  | 7 => ⟨S16, .i32⟩
  | 8 => ⟨S16, .i32⟩
  | 9 => ⟨S16, .i32⟩
  | 10 => ⟨S16x1, .i32⟩
  | 11 => ⟨S16x512x512, .f32⟩
  | 12 => ⟨S16x2048x1, .i32⟩
  | 13 => ⟨S1x1x512, .i32⟩
  | 14 => ⟨S16x2048x512, .i32⟩
  | 15 => ⟨S16x2048x512, .i32⟩
  | 16 => ⟨S16x2048x512, .i1⟩
  | 17 => ⟨S16x2048x512, .f32⟩
  | 18 => ⟨S16x2048x512, .f32⟩
  | 19 => ⟨S_, .f32⟩
  | 20 => ⟨S_, .f32⟩
  | 21 => ⟨S16x2048x512, .f32⟩
  | 22 => ⟨S16x2048x512, .f32⟩
  | 23 => ⟨S16x2048x512, .f32⟩
  | 24 => ⟨S16x2048x512, .i32⟩
  | 25 => ⟨S16x2048x512, .i32⟩
  | 26 => ⟨S16x2048x512, .i32⟩
  | 27 => ⟨S_, .i32⟩
  | 28 => ⟨S16x2048x512, .i32⟩
  | 29 => ⟨S16x2048x512, .i32⟩
  | 30 => ⟨S_, .i32⟩
  | 31 => ⟨S16x2048x512, .i32⟩
  | 32 => ⟨S16x2048x512, .i32⟩
  | 33 => ⟨S16x2048x512, .i32⟩
  | 34 => ⟨S16x2048x512, .i32⟩
  | 35 => ⟨S_, .i32⟩
  | 36 => ⟨S16x2048x512, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S16x2048x512, .i32⟩
  | 44 => ⟨S16x2048x512, .i32⟩
  | 45 => ⟨S_, .i32⟩
  | 46 => ⟨S16x2048x512, .i32⟩
  | 47 => ⟨S16x2048x512, .i32⟩
  | 48 => ⟨S16x2048x512, .i32⟩
  | 49 => ⟨S_, .i32⟩
  | 50 => ⟨S16x2048x512, .i32⟩
  | 51 => ⟨S16x2048x512, .i32⟩
  | 52 => ⟨S_, .i32⟩
  | 53 => ⟨S16x2048x512, .i32⟩
  | 54 => ⟨S16x2048x512, .i32⟩
  | 55 => ⟨S16x2048x512, .i32⟩
  | 56 => ⟨S16x2048x512, .i32⟩
  | 57 => ⟨S16x2048x512, .i32⟩
  | 58 => ⟨S_, .i32⟩
  | 59 => ⟨S16x2048x512, .i32⟩
  | 60 => ⟨S16x2048x512, .i32⟩
  | 61 => ⟨S_, .i32⟩
  | 62 => ⟨S16x2048x512, .i32⟩
  | 63 => ⟨S16x2048x512, .i32⟩
  | 64 => ⟨S16x2048x512, .i32⟩
  | 65 => ⟨S16x2048x512, .i32⟩
  | 66 => ⟨S16x2048x512, .i32⟩
  | 67 => ⟨S_, .i32⟩
  | 68 => ⟨S16x2048x512, .i32⟩
  | 69 => ⟨S16x2048x512, .i32⟩
  | 70 => ⟨S_, .i32⟩
  | 71 => ⟨S16x2048x512, .i32⟩
  | 72 => ⟨S16x2048x512, .i32⟩
  | 73 => ⟨S16x2048x512, .i32⟩
  | 74 => ⟨S16x2048x512, .i32⟩
  | 75 => ⟨S16x2048x512, .i32⟩
  | 76 => ⟨S_, .i32⟩
  | 77 => ⟨S16x2048x512, .i32⟩
  | 78 => ⟨S16x2048x512, .i32⟩
  | 79 => ⟨S_, .i32⟩
  | 80 => ⟨S16x2048x512, .i32⟩
  | 81 => ⟨S16x2048x512, .i32⟩
  | 82 => ⟨S16x2048x512, .i32⟩
  | 83 => ⟨S16x2048x512, .i32⟩
  | 84 => ⟨S_, .i32⟩
  | 85 => ⟨S16x2048x512, .i32⟩
  | 86 => ⟨S16x2048x512, .i32⟩
  | 87 => ⟨S16x2048x512, .i32⟩
  | 88 => ⟨S16x2048x512, .i32⟩
  | 89 => ⟨S_, .i32⟩
  | 90 => ⟨S16x2048x512, .i32⟩
  | 91 => ⟨S16x2048x512, .i32⟩
  | 92 => ⟨S16x2048x512, .i32⟩
  | 93 => ⟨S_, .i32⟩
  | 94 => ⟨S16x2048x512, .i32⟩
  | 95 => ⟨S16x2048x512, .i32⟩
  | 96 => ⟨S_, .i32⟩
  | 97 => ⟨S16x2048x512, .i32⟩
  | 98 => ⟨S16x2048x512, .i32⟩
  | 99 => ⟨S16x2048x512, .i32⟩
  | 100 => ⟨S16x2048x512, .i32⟩
  | 101 => ⟨S16x2048x512, .i32⟩
  | 102 => ⟨S_, .i32⟩
  | 103 => ⟨S16x2048x512, .i32⟩
  | 104 => ⟨S16x2048x512, .i32⟩
  | 105 => ⟨S_, .i32⟩
  | 106 => ⟨S16x2048x512, .i32⟩
  | 107 => ⟨S16x2048x512, .i32⟩
  | 108 => ⟨S16x2048x512, .i32⟩
  | 109 => ⟨S16x2048x512, .i32⟩
  | 110 => ⟨S16x2048x512, .i32⟩
  | 111 => ⟨S_, .i32⟩
  | 112 => ⟨S16x2048x512, .i32⟩
  | 113 => ⟨S16x2048x512, .i32⟩
  | 114 => ⟨S_, .i32⟩
  | 115 => ⟨S16x2048x512, .i32⟩
  | 116 => ⟨S16x2048x512, .i32⟩
  | 117 => ⟨S16x2048x512, .i32⟩
  | 118 => ⟨S16x2048x512, .i32⟩
  | 119 => ⟨S16x2048x512, .i32⟩
  | 120 => ⟨S_, .i32⟩
  | 121 => ⟨S16x2048x512, .i32⟩
  | 122 => ⟨S16x2048x512, .i32⟩
  | 123 => ⟨S_, .i32⟩
  | 124 => ⟨S16x2048x512, .i32⟩
  | 125 => ⟨S16x2048x512, .i32⟩
  | 126 => ⟨S16x2048x512, .i32⟩
  | 127 => ⟨S16x2048x512, .i32⟩
  | _ => ⟨S16x2048, .i32⟩

abbrev hbmTy0_1 (i : Nat) : BufTy := match i % 128 with
  | 0 => ⟨S16x2048x512, .i32⟩
  | 1 => ⟨S16x2048x512, .i32⟩
  | 2 => ⟨S_, .i32⟩
  | 3 => ⟨S16x2048x512, .i32⟩
  | 4 => ⟨S16x2048x512, .i32⟩
  | 5 => ⟨S_, .i32⟩
  | 6 => ⟨S16x2048x512, .i32⟩
  | 7 => ⟨S16x2048x512, .i32⟩
  | 8 => ⟨S16x2048x512, .i32⟩
  | 9 => ⟨S_, .i32⟩
  | 10 => ⟨S16x2048x512, .i32⟩
  | 11 => ⟨S16x2048x512, .i32⟩
  | 12 => ⟨S_, .i32⟩
  | 13 => ⟨S16x2048x512, .i32⟩
  | 14 => ⟨S16x2048x512, .i32⟩
  | 15 => ⟨S16x2048x512, .i32⟩
  | 16 => ⟨S16x2048x512, .i32⟩
  | 17 => ⟨S16x2048x512, .i32⟩
  | 18 => ⟨S_, .i32⟩
  | 19 => ⟨S16x2048x512, .i32⟩
  | 20 => ⟨S16x2048x512, .i32⟩
  | 21 => ⟨S_, .i32⟩
  | 22 => ⟨S16x2048x512, .i32⟩
  | 23 => ⟨S16x2048x512, .i32⟩
  | 24 => ⟨S16x2048x512, .i32⟩
  | 25 => ⟨S16x2048x512, .i32⟩
  | 26 => ⟨S16x2048x512, .i32⟩
  | 27 => ⟨S_, .i32⟩
  | 28 => ⟨S16x2048x512, .i32⟩
  | 29 => ⟨S16x2048x512, .i32⟩
  | 30 => ⟨S_, .i32⟩
  | 31 => ⟨S16x2048x512, .i32⟩
  | 32 => ⟨S16x2048x512, .i32⟩
  | 33 => ⟨S16x2048x512, .i32⟩
  | 34 => ⟨S16x2048x512, .i32⟩
  | 35 => ⟨S16x2048x512, .i32⟩
  | 36 => ⟨S_, .i32⟩
  | 37 => ⟨S16x2048x512, .i32⟩
  | 38 => ⟨S16x2048x512, .i32⟩
  | 39 => ⟨S_, .i32⟩
  | 40 => ⟨S16x2048x512, .i32⟩
  | 41 => ⟨S16x2048x512, .i32⟩
  | 42 => ⟨S16x2048x512, .i32⟩
  | 43 => ⟨S16x2048x512, .i32⟩
  | 44 => ⟨S_, .i32⟩
  | 45 => ⟨S16x2048x512, .i32⟩
  | 46 => ⟨S16x2048x512, .i32⟩
  | 47 => ⟨S_, .i32⟩
  | 48 => ⟨S16x2048x512, .i32⟩
  | 49 => ⟨S16x2048x512, .i32⟩
  | 50 => ⟨S_, .i32⟩
  | 51 => ⟨S16x2048x512, .i32⟩
  | 52 => ⟨S16x2048x512, .i32⟩
  | 53 => ⟨S16x2048x512, .i32⟩
  | 54 => ⟨S_, .i32⟩
  | 55 => ⟨S16x2048x512, .i32⟩
  | 56 => ⟨S16x2048x512, .i32⟩
  | 57 => ⟨S_, .i32⟩
  | 58 => ⟨S16x2048x512, .i32⟩
  | 59 => ⟨S16x2048x512, .i32⟩
  | 60 => ⟨S16x2048x512, .i32⟩
  | 61 => ⟨S16x2048x512, .i32⟩
  | 62 => ⟨S16x2048x512, .i32⟩
  | 63 => ⟨S_, .i32⟩
  | 64 => ⟨S16x2048x512, .i32⟩
  | 65 => ⟨S16x2048x512, .i32⟩
  | 66 => ⟨S_, .i32⟩
  | 67 => ⟨S16x2048x512, .i32⟩
  | 68 => ⟨S16x2048x512, .i32⟩
  | 69 => ⟨S16x2048x512, .i32⟩
  | 70 => ⟨S16x2048x512, .i32⟩
  | 71 => ⟨S16x2048x512, .i32⟩
  | 72 => ⟨S_, .i32⟩
  | 73 => ⟨S16x2048x512, .i32⟩
  | 74 => ⟨S16x2048x512, .i32⟩
  | 75 => ⟨S_, .i32⟩
  | 76 => ⟨S16x2048x512, .i32⟩
  | 77 => ⟨S16x2048x512, .i32⟩
  | 78 => ⟨S16x2048x512, .i32⟩
  | 79 => ⟨S16x2048x512, .i32⟩
  | 80 => ⟨S16x2048x512, .i32⟩
  | 81 => ⟨S_, .i32⟩
  | 82 => ⟨S16x2048x512, .i32⟩
  | 83 => ⟨S16x2048x512, .i32⟩
  | 84 => ⟨S_, .i32⟩
  | 85 => ⟨S16x2048x512, .i32⟩
  | 86 => ⟨S16x2048x512, .i32⟩
  | 87 => ⟨S16x2048x512, .i32⟩
  | 88 => ⟨S16x2048x512, .i32⟩
  | 89 => ⟨S_, .i32⟩
  | 90 => ⟨S16x2048x512, .i32⟩
  | 91 => ⟨S16x2048x512, .i32⟩
  | 92 => ⟨S16x2048x512, .i32⟩
  | 93 => ⟨S16x2048x512, .i32⟩
  | 94 => ⟨S_, .i32⟩
  | 95 => ⟨S16x2048x512, .i32⟩
  | 96 => ⟨S16x2048x512, .i32⟩
  | 97 => ⟨S16x2048x512, .i32⟩
  | 98 => ⟨S_, .i32⟩
  | 99 => ⟨S16x2048x512, .i32⟩
  | 100 => ⟨S16x2048x512, .i32⟩
  | 101 => ⟨S_, .i32⟩
  | 102 => ⟨S16x2048x512, .i32⟩
  | 103 => ⟨S16x2048x512, .i32⟩
  | 104 => ⟨S16x2048x512, .i32⟩
  | 105 => ⟨S16x2048x512, .i32⟩
  | 106 => ⟨S16x2048x512, .i32⟩
  | 107 => ⟨S_, .i32⟩
  | 108 => ⟨S16x2048x512, .i32⟩
  | 109 => ⟨S16x2048x512, .i32⟩
  | 110 => ⟨S_, .i32⟩
  | 111 => ⟨S16x2048x512, .i32⟩
  | 112 => ⟨S16x2048x512, .i32⟩
  | 113 => ⟨S16x2048x512, .i32⟩
  | 114 => ⟨S16x2048x512, .i32⟩
  | 115 => ⟨S16x2048x512, .i32⟩
  | 116 => ⟨S_, .i32⟩
  | 117 => ⟨S16x2048x512, .i32⟩
  | 118 => ⟨S16x2048x512, .i32⟩
  | 119 => ⟨S_, .i32⟩
  | 120 => ⟨S16x2048x512, .i32⟩
  | 121 => ⟨S16x2048x512, .i32⟩
  | 122 => ⟨S16x2048x512, .i32⟩
  | 123 => ⟨S16x2048x512, .i32⟩
  | 124 => ⟨S16x2048x512, .i32⟩
  | 125 => ⟨S_, .i32⟩
  | 126 => ⟨S16x2048x512, .i32⟩
  | 127 => ⟨S16x2048x512, .i32⟩
  | _ => ⟨S16x2048, .i32⟩

abbrev hbmTy0_2 (i : Nat) : BufTy := match i % 128 with
  | 0 => ⟨S_, .i32⟩
  | 1 => ⟨S16x2048x512, .i32⟩
  | 2 => ⟨S16x2048x512, .i32⟩
  | 3 => ⟨S16x2048x512, .i32⟩
  | 4 => ⟨S16x2048x512, .i32⟩
  | 5 => ⟨S16x2048x512, .i32⟩
  | 6 => ⟨S16x2048x512, .i32⟩
  | 7 => ⟨S_, .i32⟩
  | 8 => ⟨S16x2048x512, .i32⟩
  | 9 => ⟨S16x2048x512, .i32⟩
  | 10 => ⟨S_, .i32⟩
  | 11 => ⟨S16x2048x512, .i32⟩
  | 12 => ⟨S16x2048x512, .i32⟩
  | 13 => ⟨S16x2048x512, .i32⟩
  | 14 => ⟨S_, .i32⟩
  | 15 => ⟨S16x2048x512, .i32⟩
  | 16 => ⟨S16x2048x512, .i32⟩
  | 17 => ⟨S_, .i32⟩
  | 18 => ⟨S16x2048x512, .i32⟩
  | 19 => ⟨S16x2048x512, .i32⟩
  | 20 => ⟨S16x2048x512, .f32⟩
  | 21 => ⟨S_, .f32⟩
  | 22 => ⟨S16x2048x512, .f32⟩
  | 23 => ⟨S16x2048x512, .f32⟩
  | 24 => ⟨S_, .f32⟩
  | 25 => ⟨S16x2048x512, .f32⟩
  | 26 => ⟨S16x2048x512, .f32⟩
  | 27 => ⟨S_, .f32⟩
  | 28 => ⟨S16x2048x512, .f32⟩
  | 29 => ⟨S16x2048x512, .f32⟩
  | 30 => ⟨S16x2048x512, .f32⟩
  | 31 => ⟨S16x2048x512, .f32⟩
  | 32 => ⟨S16x2048x512, .f32⟩
  | 33 => ⟨S16x2048x512, .f32⟩
  | 34 => ⟨S16x2048x512, .f32⟩
  | 35 => ⟨S16x2048x512, .i32⟩
  | 36 => ⟨S_, .f32⟩
  | 37 => ⟨S_, .i32⟩
  | 38 => ⟨S16x2048, .f32⟩
  | 39 => ⟨S16x2048, .i32⟩
  | _ => ⟨S16x2048, .i32⟩

abbrev hbmTy (i : Nat) : BufTy := match i / 128 with
  | 0 => hbmTy0_0 i
  | 1 => hbmTy0_1 i
  | 2 => hbmTy0_2 i
  | _ => ⟨S16x2048, .i32⟩

abbrev bufTy : (tb : Table) → Fin (tcTables nBuf tb) → BufTy
  | .hbm, ⟨i, _⟩ => hbmTy i
  | _, _ => ⟨S16x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_call1_v0 : Ref sig .tc := ⟨.hbm, 20, rfl⟩
abbrev main_call1_v1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_c_4 : Ref sig .tc := ⟨.hbm, 37, rfl⟩
abbrev main_c_5 : Ref sig .tc := ⟨.hbm, 38, rfl⟩
abbrev main_v21 : Ref sig .tc := ⟨.hbm, 39, rfl⟩
abbrev main_c_6 : Ref sig .tc := ⟨.hbm, 40, rfl⟩
abbrev main_v22 : Ref sig .tc := ⟨.hbm, 41, rfl⟩
abbrev main_c_7 : Ref sig .tc := ⟨.hbm, 42, rfl⟩
abbrev main_v23 : Ref sig .tc := ⟨.hbm, 43, rfl⟩
abbrev main_v24 : Ref sig .tc := ⟨.hbm, 44, rfl⟩
abbrev main_c_8 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_9 : Ref sig .tc := ⟨.hbm, 49, rfl⟩
abbrev main_v28 : Ref sig .tc := ⟨.hbm, 50, rfl⟩
abbrev main_v29 : Ref sig .tc := ⟨.hbm, 51, rfl⟩
abbrev main_c_10 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_11 : Ref sig .tc := ⟨.hbm, 58, rfl⟩
abbrev main_v35 : Ref sig .tc := ⟨.hbm, 59, rfl⟩
abbrev main_v36 : Ref sig .tc := ⟨.hbm, 60, rfl⟩
abbrev main_c_12 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_13 : Ref sig .tc := ⟨.hbm, 67, rfl⟩
abbrev main_v42 : Ref sig .tc := ⟨.hbm, 68, rfl⟩
abbrev main_v43 : Ref sig .tc := ⟨.hbm, 69, rfl⟩
abbrev main_c_14 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_15 : Ref sig .tc := ⟨.hbm, 76, rfl⟩
abbrev main_v49 : Ref sig .tc := ⟨.hbm, 77, rfl⟩
abbrev main_v50 : Ref sig .tc := ⟨.hbm, 78, rfl⟩
abbrev main_c_16 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_c_17 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_18 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_19 : Ref sig .tc := ⟨.hbm, 93, rfl⟩
abbrev main_v62 : Ref sig .tc := ⟨.hbm, 94, rfl⟩
abbrev main_v63 : Ref sig .tc := ⟨.hbm, 95, rfl⟩
abbrev main_c_20 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_c_21 : Ref sig .tc := ⟨.hbm, 102, rfl⟩
abbrev main_v69 : Ref sig .tc := ⟨.hbm, 103, rfl⟩
abbrev main_v70 : Ref sig .tc := ⟨.hbm, 104, rfl⟩
abbrev main_c_22 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_c_23 : Ref sig .tc := ⟨.hbm, 111, rfl⟩
abbrev main_v76 : Ref sig .tc := ⟨.hbm, 112, rfl⟩
abbrev main_v77 : Ref sig .tc := ⟨.hbm, 113, rfl⟩
abbrev main_c_24 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_c_25 : Ref sig .tc := ⟨.hbm, 120, rfl⟩
abbrev main_v83 : Ref sig .tc := ⟨.hbm, 121, rfl⟩
abbrev main_v84 : Ref sig .tc := ⟨.hbm, 122, rfl⟩
abbrev main_c_26 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_c_27 : Ref sig .tc := ⟨.hbm, 130, rfl⟩
abbrev main_v91 : Ref sig .tc := ⟨.hbm, 131, rfl⟩
abbrev main_v92 : Ref sig .tc := ⟨.hbm, 132, rfl⟩
abbrev main_c_28 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_c_29 : Ref sig .tc := ⟨.hbm, 137, rfl⟩
abbrev main_v96 : Ref sig .tc := ⟨.hbm, 138, rfl⟩
abbrev main_v97 : Ref sig .tc := ⟨.hbm, 139, rfl⟩
abbrev main_c_30 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_c_31 : Ref sig .tc := ⟨.hbm, 146, rfl⟩
abbrev main_v103 : Ref sig .tc := ⟨.hbm, 147, rfl⟩
abbrev main_v104 : Ref sig .tc := ⟨.hbm, 148, rfl⟩
abbrev main_c_32 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_c_33 : Ref sig .tc := ⟨.hbm, 155, rfl⟩
abbrev main_v110 : Ref sig .tc := ⟨.hbm, 156, rfl⟩
abbrev main_v111 : Ref sig .tc := ⟨.hbm, 157, rfl⟩
abbrev main_c_34 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_c_35 : Ref sig .tc := ⟨.hbm, 164, rfl⟩
abbrev main_v117 : Ref sig .tc := ⟨.hbm, 165, rfl⟩
abbrev main_v118 : Ref sig .tc := ⟨.hbm, 166, rfl⟩
abbrev main_c_36 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_c_37 : Ref sig .tc := ⟨.hbm, 172, rfl⟩
abbrev main_v123 : Ref sig .tc := ⟨.hbm, 173, rfl⟩
abbrev main_v124 : Ref sig .tc := ⟨.hbm, 174, rfl⟩
abbrev main_c_38 : Ref sig .tc := ⟨.hbm, 175, rfl⟩
abbrev main_v125 : Ref sig .tc := ⟨.hbm, 176, rfl⟩
abbrev main_v126 : Ref sig .tc := ⟨.hbm, 177, rfl⟩
abbrev main_c_39 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_c_40 : Ref sig .tc := ⟨.hbm, 182, rfl⟩
abbrev main_v130 : Ref sig .tc := ⟨.hbm, 183, rfl⟩
abbrev main_v131 : Ref sig .tc := ⟨.hbm, 184, rfl⟩
abbrev main_c_41 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_c_42 : Ref sig .tc := ⟨.hbm, 191, rfl⟩
abbrev main_v137 : Ref sig .tc := ⟨.hbm, 192, rfl⟩
abbrev main_v138 : Ref sig .tc := ⟨.hbm, 193, rfl⟩
abbrev main_c_43 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_c_44 : Ref sig .tc := ⟨.hbm, 200, rfl⟩
abbrev main_v144 : Ref sig .tc := ⟨.hbm, 201, rfl⟩
abbrev main_v145 : Ref sig .tc := ⟨.hbm, 202, rfl⟩
abbrev main_c_45 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_c_46 : Ref sig .tc := ⟨.hbm, 209, rfl⟩
abbrev main_v151 : Ref sig .tc := ⟨.hbm, 210, rfl⟩
abbrev main_v152 : Ref sig .tc := ⟨.hbm, 211, rfl⟩
abbrev main_c_47 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_c_48 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_c_49 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_c_50 : Ref sig .tc := ⟨.hbm, 226, rfl⟩
abbrev main_v164 : Ref sig .tc := ⟨.hbm, 227, rfl⟩
abbrev main_v165 : Ref sig .tc := ⟨.hbm, 228, rfl⟩
abbrev main_c_51 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_c_52 : Ref sig .tc := ⟨.hbm, 235, rfl⟩
abbrev main_v171 : Ref sig .tc := ⟨.hbm, 236, rfl⟩
abbrev main_v172 : Ref sig .tc := ⟨.hbm, 237, rfl⟩
abbrev main_c_53 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_c_54 : Ref sig .tc := ⟨.hbm, 244, rfl⟩
abbrev main_v178 : Ref sig .tc := ⟨.hbm, 245, rfl⟩
abbrev main_v179 : Ref sig .tc := ⟨.hbm, 246, rfl⟩
abbrev main_c_55 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_c_56 : Ref sig .tc := ⟨.hbm, 253, rfl⟩
abbrev main_v185 : Ref sig .tc := ⟨.hbm, 254, rfl⟩
abbrev main_v186 : Ref sig .tc := ⟨.hbm, 255, rfl⟩
abbrev main_c_57 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_c_58 : Ref sig .tc := ⟨.hbm, 263, rfl⟩
abbrev main_v193 : Ref sig .tc := ⟨.hbm, 264, rfl⟩
abbrev main_v194 : Ref sig .tc := ⟨.hbm, 265, rfl⟩
abbrev main_c_59 : Ref sig .tc := ⟨.hbm, 266, rfl⟩
abbrev main_v195 : Ref sig .tc := ⟨.hbm, 267, rfl⟩
abbrev main_v196 : Ref sig .tc := ⟨.hbm, 268, rfl⟩
abbrev main_v197 : Ref sig .tc := ⟨.hbm, 269, rfl⟩
abbrev main_c_60 : Ref sig .tc := ⟨.hbm, 270, rfl⟩
abbrev main_v198 : Ref sig .tc := ⟨.hbm, 271, rfl⟩
abbrev main_v199 : Ref sig .tc := ⟨.hbm, 272, rfl⟩
abbrev main_c_61 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_cst_62 : Ref sig .tc := ⟨.hbm, 277, rfl⟩
abbrev main_v203 : Ref sig .tc := ⟨.hbm, 278, rfl⟩
abbrev main_v204 : Ref sig .tc := ⟨.hbm, 279, rfl⟩
abbrev main_cst_63 : Ref sig .tc := ⟨.hbm, 280, rfl⟩
abbrev main_v205 : Ref sig .tc := ⟨.hbm, 281, rfl⟩
abbrev main_v206 : Ref sig .tc := ⟨.hbm, 282, rfl⟩
abbrev main_cst_64 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_v212 : Ref sig .tc := ⟨.hbm, 289, rfl⟩
abbrev main_v213 : Ref sig .tc := ⟨.hbm, 290, rfl⟩
abbrev main_call2_v0 : Ref sig .tc := ⟨.hbm, 291, rfl⟩
abbrev main_call2_cst : Ref sig .tc := ⟨.hbm, 292, rfl⟩
abbrev main_call2_c : Ref sig .tc := ⟨.hbm, 293, rfl⟩
abbrev main_call2_v1_0 : Ref sig .tc := ⟨.hbm, 294, rfl⟩
abbrev main_v214 : Ref sig .tc := ⟨.hbm, 295, rfl⟩

abbrev nD : Nat := 1
abbrev τ : Topo := Topo.v7x

variable {F : FTy → Type} [FloatOps F]
-- ==== Proof.Range.lean ====
/- What the two preconditions say, element by element: every time is a row of the table, every token is a class, and every
   entry of the table is at least the constant that the reference clips at. -/
module

public import proofs.«01_k».proof.Defs
public import proofs.«01_k».proof.Proof.Gen.Pre_times_in_table
public import proofs.«01_k».proof.Proof.Gen.Pre_in_range
public import Idealize.ShloMosaic.Lib.ReduceAll

@[expose] public section

set_option maxRecDepth 16384

noncomputable section

namespace Cert.Range

open Idealize.ShloMosaic

variable {F : FTy → Type} [FloatOps F]

/-- A rank-zero array has one index. -/
instance (f : Fin 0 → Nat) : Subsingleton (Shape.Idx ⟨0, f⟩) := ⟨fun _ _ => funext fun a => a.elim0⟩

/-- A word that is at least 0 and below `n` as a signed number is below `n` as a natural number. -/
theorem toNat_lt_of_signed (w : BitVec 32) (n : Nat) (hn : n < 2 ^ 31)
    (e : IntOp.andi (IntOp.cmpi .sge w 0#32) (IntOp.cmpi .slt w (BitVec.ofNat 32 n)) = 1#1) : w.toNat < n := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true] at e
  obtain ⟨hge, hlt⟩ := e
  simp only [BitVec.sle, BitVec.slt, decide_eq_true_eq, BitVec.toInt, BitVec.toNat_ofNat] at hge hlt
  have := w.isLt
  rw [Nat.mod_eq_of_lt (show n < 2 ^ 32 by omega)] at hlt
  split at hlt <;> split at hlt <;> simp_all <;> omega

/-- Under `times_in_table` every time is below 100. -/
theorem time_lt (x : IVec Cert.Pre_times_in_table.S16x2048 32) (t : IVec Cert.Pre_times_in_table.S16 32)
    (q : FVec F Cert.Pre_times_in_table.S100x512x512 .f32)
    (h : Cert.Pre_times_in_table.fn x t q = fun _ => 1#1) (i : Cert.Pre_times_in_table.S16.Idx) : (t i).toNat < 100 := by
  have e := congrFun h (fun a => a.elim0)
  unfold Cert.Pre_times_in_table.fn at e
  exact toNat_lt_of_signed (t i) 100 (by decide) (Host.reduce_andi_all _ _ _ _ _ e i)

/-- Under `in_range` every token is below 512. -/
theorem token_lt (x : IVec Cert.Pre_in_range.S16x2048 32) (t : IVec Cert.Pre_in_range.S16 32)
    (q : FVec F Cert.Pre_in_range.S100x512x512 .f32)
    (h : (Cert.Pre_in_range.fn x t q).1 = fun _ => 1#1) (i : Cert.Pre_in_range.S16x2048.Idx) : (x i).toNat < 512 := by
  have e := congrFun h (fun a => a.elim0)
  dsimp only [Cert.Pre_in_range.fn] at e
  exact toNat_lt_of_signed (x i) 512 (by decide) (Host.reduce_andi_all _ _ _ _ _ e i)

/-- Under `in_range` every time is below 100. -/
theorem time_lt' (x : IVec Cert.Pre_in_range.S16x2048 32) (t : IVec Cert.Pre_in_range.S16 32)
    (q : FVec F Cert.Pre_in_range.S100x512x512 .f32)
    (h : (Cert.Pre_in_range.fn x t q).2.1 = fun _ => 1#1) (i : Cert.Pre_in_range.S16.Idx) : (t i).toNat < 100 := by
  have e := congrFun h (fun a => a.elim0)
  dsimp only [Cert.Pre_in_range.fn] at e
  exact toNat_lt_of_signed (t i) 100 (by decide) (Host.reduce_andi_all _ _ _ _ _ e i)

/-- Under `in_range` every entry of the table is at least the clipping constant. -/
theorem clip_le (x : IVec Cert.Pre_in_range.S16x2048 32) (t : IVec Cert.Pre_in_range.S16 32)
    (q : FVec Ideal Cert.Pre_in_range.S100x512x512 .f32)
    (h : (Cert.Pre_in_range.fn x t q).2.2 = fun _ => 1#1) (i : Cert.Pre_in_range.S100x512x512.Idx) : Ideal.ofBits .f32 0x2B8CBCCC#32 ≤ q i := by
  have e := congrFun h (fun a => a.elim0)
  dsimp only [Cert.Pre_in_range.fn] at e
  have e' : Ideal.cmp .oge (q i) (Ideal.ofBits .f32 0x2B8CBCCC#32) = 1#1 := Host.reduce_andi_all _ _ _ _ _ e i
  by_contra hn
  simp [Ideal.cmp, hn] at e'

end Cert.Range

end
-- ==== Proof.Tables.lean ====
/- The pipeline's side condition on the prefetched table of times: when every time is a row of the table of matrices, the
   block of matrices that a grid point asks for lies inside the array. -/
module

public import proofs.«01_k».proof.Proof.Range
public import proofs.«01_k».proof.Proof.Gen.Kernel.Frame
public import proofs.«01_k».proof.Proof.Gen.KernelIdeal.Frame

@[expose] public section

set_option maxRecDepth 16384

noncomputable section

namespace Cert.Tables

open Idealize.ShloMosaic Idealize.ShloMosaic.TcCoe

variable {F : FTy → Type} [FloatOps F]

/-- The idealized kernel's blocks of matrices lie inside the array when every time is below 100. -/
theorem ok_ideal (m : (ℓ : Loc Cert.KernelIdeal.nD Cert.KernelIdeal.τ Cert.KernelIdeal.sig) → Buf (Elt F) ℓ)
    (h : ∀ i : Cert.KernelIdeal.S16.Idx,
      ((m (((0 : Dev Cert.KernelIdeal.nD).tc : Thread Cert.KernelIdeal.nD Cert.KernelIdeal.τ).loc Cert.KernelIdeal.main_arg1) :
        Cert.KernelIdeal.S16.Idx → BitVec 32) i).toNat < 100) :
    Cert.KernelIdeal.Gen.Ok m := fun i => by
  refine ⟨fun a => ?_, Or.inl rfl⟩
  have hw : ∀ j, (Cert.KernelIdeal.Gen.tbl m 0 j : BitVec 32).toNat < 100 := fun j => by
    have e := Cert.KernelIdeal.Gen.V_main_arg1 m 0
    exact (congrArg BitVec.toNat (congrFun e j)).trans_lt (h j)
  fin_cases a
  · show (BitVec.toNat _ + 1) * 1 ≤ 100
    rw [mul_one]; exact hw _
  · exact (by decide : (0 + 1) * 512 ≤ 512)
  · exact (by decide : (0 + 1) * 512 ≤ 512)

/-- The printed kernel's blocks of matrices lie inside the array when every time is below 100. -/
theorem ok_printed (m : (ℓ : Loc Cert.Kernel.nD Cert.Kernel.τ Cert.Kernel.sig) → Buf (Elt F) ℓ)
    (h : ∀ i : Cert.Kernel.S16.Idx,
      ((m (((0 : Dev Cert.Kernel.nD).tc : Thread Cert.Kernel.nD Cert.Kernel.τ).loc Cert.Kernel.main_arg1) :
        Cert.Kernel.S16.Idx → BitVec 32) i).toNat < 100) :
    Cert.Kernel.Gen.Ok m := fun i => by
  refine ⟨fun a => ?_, Or.inl rfl⟩
  have hw : ∀ j, (Cert.Kernel.Gen.tbl m 0 j : BitVec 32).toNat < 100 := fun j => by
    have e := Cert.Kernel.Gen.V_main_arg1 m 0
    exact (congrArg BitVec.toNat (congrFun e j)).trans_lt (h j)
  fin_cases a
  · show (BitVec.toNat _ + 1) * 1 ≤ 100
    rw [mul_one]; exact hw _
  · exact (by decide : (0 + 1) * 512 ≤ 512)
  · exact (by decide : (0 + 1) * 512 ≤ 512)

end Cert.Tables

end
-- ==== Proof.RefRun.lean ====
/- The reference's run: its whole program is one line of host operations, and every buffer ends as that line leaves it. -/
module

public import proofs.«01_k».proof.Defs
public import proofs.«01_k».proof.Proof.Gen.ReferenceIdeal
public import Idealize.ShloMosaic.Lib.Claim
public import Idealize.ShloMosaic.Lib.StableHlo.RunHlo
public import Idealize.ShloMosaic.Lib.StableHlo.RunRead
public import Idealize.ShloMosaic.Adequacy
public import Idealize.ShloMosaic.Init

@[expose] public section

set_option maxRecDepth 16384
noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- A single last operation is a line of one. -/
theorem isSeq_last {op : HloOp τ sig (Elt F)} :
    IsSeq (hlo rfl op fun _ => .ret (⟨⟩ : PUnit) : Prog (TpuEff nD τ sig (Elt F) (Pipeline.Sig Λ₀ (Fin 0) fun p => (pcfgs (F := F) p).Adm) .tc) PUnit) [op] := rfl

/-- Two lines one after the other are their concatenation. -/
theorem isSeq_append {p q : Prog (TpuEff nD τ sig (Elt F) (Pipeline.Sig Λ₀ (Fin 0) fun p => (pcfgs (F := F) p).Adm) .tc) PUnit}
    {a b : List (HloOp τ sig (Elt F))} (hp : IsSeq p a) (hq : IsSeq q b) : IsSeq (p >>= fun _ => q) (a ++ b) := by
  unfold IsSeq at *; rw [seq_append, ← hp, ← hq]

/-- The reference's operations in order. -/
def line : { ops : List (HloOp τ sig (Elt F)) // ∀ c : Dev nD, IsSeq (main (F := F) c) ops } := by
  apply Subtype.mk
  intro c
  unfold main
  apply isSeq_append
  · unfold main_part0
    repeat (first | exact IsSeq.nil | exact isSeq_last | apply IsSeq.cons | apply isSeq_append)
  repeat (first | exact IsSeq.nil | exact isSeq_last | apply IsSeq.cons | apply isSeq_append)

/-- Every operation of the line determines its results. -/
theorem line_fresh : ∀ op ∈ (line (F := F)).1, op.fresh = ∅ := by
  have h : (line (F := F)).1.map HloOp.fresh = List.replicate (line (F := F)).1.length ∅ := rfl
  intro op hop
  exact List.eq_of_mem_replicate (h ▸ List.mem_map_of_mem hop)

set_option maxHeartbeats 4000000 in
/-- Every operation of the line names buffers of the core only. -/
theorem line_bufs : (line (F := F)).1.Forall fun op => op.bufs ⊆ tcRefs τ sig := by
  unfold line
  simp only [List.cons_append, List.nil_append, List.Forall, unary_bufs_sub, binary_bufs_sub, ternary_bufs_sub, nullary_bufs_sub, quaternary_bufs_sub,
    TRef.unary, TRef.nullary, TRef.binary, TRef.quaternary, and_self]

/-- The reference runs, and ends with each buffer holding what its line of operations computes. -/
theorem run (m : (ℓ : Loc nD τ sig) → Buf (Elt F) ℓ) (ρ : Dev nD → PrngReg) :
    θ_run (defs (F := F)) (onTc (τ := τ) main) ⟨m, fun _ => 0, ρ⟩ fun r =>
      ∀ (d : Dev nD) (b : Ref sig .tc), r.2.mem ((d.tc : Thread nD τ).loc b) = after line.1 (launchContents m d) (Proc.devRef .tc b) :=
  run_hlo defs main line.2 (by decide) (by decide) line_bufs line_fresh m ρ

/-- No operation of the line writes an argument. -/
theorem line_args (V : Valuation τ sig (Elt F)) :
    after line.1 V (Proc.devRef .tc main_arg0) = V (Proc.devRef .tc main_arg0)
    ∧ after line.1 V (Proc.devRef .tc main_arg1) = V (Proc.devRef .tc main_arg1)
    ∧ after line.1 V (Proc.devRef .tc main_arg2) = V (Proc.devRef .tc main_arg2) := by
  refine ⟨?_, ?_, ?_⟩ <;> after_reads_simp

end Cert.RefRun

end
-- ==== Proof.Frames.lean ====
/- The runs of the three programs with the arguments left unchanged: the two kernels under a table of times in range, the
   reference from any memory. -/
module

public import proofs.«01_k».proof.Defs
public import proofs.«01_k».proof.Proof.Gen.Kernel.Frame
public import proofs.«01_k».proof.Proof.Gen.KernelIdeal.Frame
public import proofs.«01_k».proof.Proof.Range
public import proofs.«01_k».proof.Proof.Tables
public import proofs.«01_k».proof.Proof.RefRun

@[expose] public section

noncomputable section

namespace Cert.Frames

open Idealize.ShloMosaic Idealize.SL.Sem

/-- The printed kernel runs and leaves its arguments alone when every time is a row of the table. -/
theorem printed : Cert.quiescent_Kernel := fun m ρ h =>
  Cert.Kernel.Gen.frame m ρ (Cert.Tables.ok_printed m (fun i => Cert.Range.time_lt _ _ _ (h 0) i))

/-- The idealized kernel does as well. -/
theorem ideal : Cert.quiescent_KernelIdeal := fun m ρ h =>
  Cert.KernelIdeal.Gen.frame m ρ (Cert.Tables.ok_ideal m (fun i => Cert.Range.time_lt _ _ _ (h 0) i))

/-- The same under the stronger precondition. -/
theorem ideal_in_range : Cert.quiescent_KernelIdeal_pre_in_range := fun m ρ h =>
  Cert.KernelIdeal.Gen.frame m ρ (Cert.Tables.ok_ideal m (fun i => Cert.Range.time_lt' _ _ _ (h 0).2.1 i))

/-- The reference runs from any memory, leaves its arguments alone, and uses no semaphore. -/
theorem reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono
    (fun r h => ⟨fun c => ⟨(h c _).trans (Cert.RefRun.line_args _).1, (h c _).trans (Cert.RefRun.line_args _).2.1, (h c _).trans (Cert.RefRun.line_args _).2.2⟩,
      sem_eq_zero_of_no_sems (by decide) r.2⟩)
    (Cert.RefRun.run m ρ)

end Cert.Frames

end
-- ==== Proof.Threefry.lean ====
/-
  The threefry2x32 word at a counter, over plain 32-bit words: one round, one group of four rounds with the key words added after it, and the five groups at the key (0, 1). Both programs are read against these.
-/
module

public import Idealize.ShloMosaic.PureOps

@[expose] public section

namespace Cert.Threefry

open Idealize.ShloMosaic

/-- The word rotated left: its two shifts, joined. -/
def rot (l r : BitVec 32) (x : BitVec 32) : BitVec 32 := IntOp.ori (x <<< l) (x >>> r)

/-- One round on the pair of words: the sum, and the sum crossed with the rotated second word. -/
def round (l r : BitVec 32) (s : BitVec 32 × BitVec 32) : BitVec 32 × BitVec 32 :=
  (IntOp.addi s.1 s.2, IntOp.xori (IntOp.addi s.1 s.2) (rot l r s.2))

/-- The four rounds of an even group. -/
def four (s : BitVec 32 × BitVec 32) : BitVec 32 × BitVec 32 :=
  round 6#32 26#32 (round 26#32 6#32 (round 15#32 17#32 (round 13#32 19#32 s)))

/-- The four rounds of an odd group. -/
def four' (s : BitVec 32 × BitVec 32) : BitVec 32 × BitVec 32 :=
  round 24#32 8#32 (round 16#32 16#32 (round 29#32 3#32 (round 17#32 15#32 s)))

/-- The third key word: the two words of the key crossed with the cipher's constant. -/
def key2 : BitVec 32 := IntOp.xori (IntOp.xori 0#32 1#32) 466688986#32

/-- The key words of a group, and the group's number, added to the pair. -/
def inject (a b n : BitVec 32) (s : BitVec 32 × BitVec 32) : BitVec 32 × BitVec 32 :=
  (IntOp.addi s.1 a, IntOp.addi (IntOp.addi s.2 b) n)

/-- The five groups, from the pair after the first key words. -/
def groups (s : BitVec 32 × BitVec 32) : BitVec 32 × BitVec 32 :=
  inject key2 0#32 5#32 (four (inject 1#32 key2 4#32 (four' (inject 0#32 1#32 3#32 (four (inject key2 0#32 2#32 (four' (inject 1#32 key2 1#32 (four s)))))))))

/-- The random word of a counter: the two cipher words crossed. -/
def word (n : BitVec 32) : BitVec 32 :=
  let s := groups (0#32, IntOp.addi n 1#32)
  IntOp.xori s.1 s.2

end Cert.Threefry
-- ==== Proof.Block.lean ====
/- One block of 128 rows of the kernel, as a function of its tokens and of its table of transition weights: the counter of
   each lane, the mixing rounds, the uniform and the Gumbel value, the scores, and the first lane that attains the row's
   maximum. The sixteen stores of the kernel's body are this function at sixteen offsets. -/
module

public import proofs.«01_k».proof.Proof.Gen.KernelIdeal.Frame
public import proofs.«01_k».proof.Proof.Threefry

@[expose] public section

set_option maxRecDepth 16384

noncomputable section

namespace Cert.Block

open Idealize.ShloMosaic Idealize.ShloMosaic.TcCoe Idealize.ShloMosaic.Tactic Cert.KernelIdeal Cert.KernelIdeal.Gen

variable {F : FTy → Type} [FloatOps F]

/-- The lane number along the categories. -/
def lanes : IVec S128x512 32 := iota .tc S128x512 32 [1] iota_S128x512_d1_w32

/-- The row number in the block. -/
def rows : IVec S128x512 32 := iota .tc S128x512 32 [0] iota_S128x512_d0_w32

/-- The counters of a block whose first row is `off` rows after the grid point's first, plus one. -/
def counters (i : grid0.Coords) (off : BitVec 32) : IVec S128x512 32 :=
  addi (addi (muli (addi (broadcast S128x512 (Scalar.addi (Scalar.addi (Scalar.muli (BitVec.ofNat 32 (i 0).val) 2048#32) (Scalar.muli (BitVec.ofNat 32 (i 1).val) 2048#32)) off)) rows)
    (broadcast S128x512 512#32)) lanes) (broadcast S128x512 1#32)

/-- A vector rotated lane by lane. -/
def rotV (l r : BitVec 32) (x : IVec S128x512 32) : IVec S128x512 32 :=
  ori (shli x (broadcast S128x512 l)) (shrui x (broadcast S128x512 r))

/-- One mixing round on two vectors. -/
def roundV (l r : BitVec 32) (s : IVec S128x512 32 × IVec S128x512 32) : IVec S128x512 32 × IVec S128x512 32 :=
  (addi s.1 s.2, xori (addi s.1 s.2) (rotV l r s.2))

/-- The first four rounds' rotations. -/
def fourV (s : IVec S128x512 32 × IVec S128x512 32) : IVec S128x512 32 × IVec S128x512 32 :=
  roundV 6#32 26#32 (roundV 26#32 6#32 (roundV 15#32 17#32 (roundV 13#32 19#32 s)))

/-- The next four rounds' rotations. -/
def fourV' (s : IVec S128x512 32 × IVec S128x512 32) : IVec S128x512 32 × IVec S128x512 32 :=
  roundV 24#32 8#32 (roundV 16#32 16#32 (roundV 29#32 3#32 (roundV 17#32 15#32 s)))

/-- A key addition, the round number already added to the second key. -/
def injectV (a b : BitVec 32) (s : IVec S128x512 32 × IVec S128x512 32) : IVec S128x512 32 × IVec S128x512 32 :=
  (addi s.1 (broadcast S128x512 a), addi s.2 (broadcast S128x512 b))

/-- The first four rounds from the words `0` and `n`: the first round's sum is `n` itself. -/
def startV (n : IVec S128x512 32) : IVec S128x512 32 × IVec S128x512 32 :=
  roundV 6#32 26#32 (roundV 26#32 6#32 (roundV 15#32 17#32 (n, xori n (rotV 13#32 19#32 n))))

/-- The twenty rounds and their key additions. -/
def wordsV (n : IVec S128x512 32) : IVec S128x512 32 :=
  let s := injectV 466688987#32 5#32 (fourV (injectV 1#32 466688991#32 (fourV' (injectV 0#32 4#32 (fourV
    (injectV 466688987#32 2#32 (fourV' (injectV 1#32 466688988#32 (startV n)))))))))
  xori s.1 s.2

/-- The logarithm of the weights that the tokens pick. -/
def logits (q : Vec F S1x512x512 .f32) (x : Vec F S1x1x128 .i32) : FVec F S128x512 .f32 := k0_pay3 q x

/-- The uniform value of each lane's word. -/
def units (w : IVec S128x512 32) : FVec F S128x512 .f32 :=
  addf (subf (bitcastToFloat .f32 (ori (shrui w (broadcast S128x512 9#32)) (broadcast S128x512 1065353216#32)))
    (broadcast S128x512 (Scalar.ofBits .f32 0x3F800000#32))) (broadcast S128x512 (Scalar.ofBits .f32 0x00800000#32))

/-- The scores: the log-weights plus the Gumbel values. -/
def scores (w : IVec S128x512 32) (l : FVec F S128x512 .f32) : FVec F S128x512 .f32 :=
  addf l (subf (broadcast S128x512 (Scalar.ofBits .f32 0x00000000#32))
    (log (subf (broadcast S128x512 (Scalar.ofBits .f32 0x00000000#32)) (log (units w)))))

/-- The first lane of each row that attains the row's maximum. -/
def firsts (s : FVec F S128x512 .f32) : IVec S128 32 :=
  multiReductionI .minsi [1] S128
    (select (cmpf .oeq s (broadcastTo S128x512 (shapeCast S128x1
      (multiReduction .maximumf [1] S128 s 0xFF800000#32 reduces_S128x512_S128 (.inl rfl) rfl) shapeCasts_S128_S128x1) broadcasts_S128x1_S128x512))
      lanes (broadcast S128x512 512#32)) 2147483647#32 reduces_S128x512_S128 rfl

/-- The block's result. -/
def block (i : grid0.Coords) (off : BitVec 32) (q : Vec F S1x512x512 .f32) (x : Vec F S1x1x128 .i32) : IVec S1x1x128 32 :=
  shapeCast S1x1x128 (firsts (scores (wordsV (counters i off)) (logits q x))) shapeCasts_S128_S1x1x128

/-- The tokens that the block at offset `k` loads. -/
def loadX (arg3 : Memref sig .tc .vmem S1x1x2048 .i32) (harg3 : arg3.IsWhole) (x0 : Vec F S1x1x2048 .i32) (k : ℕ)
    (h : ∀ a, (![0, 0, k] : Fin 3 → ℕ) a + S1x1x128.size a ≤ S1x1x2048.size a) : Vec F S1x1x128 .i32 :=
  View.readAt (Elt F) arg3.view (Rect.unit (s := S1x1x2048) ![0, 0, k] S1x1x128.size h).toLoadRect (harg3.unread x0)

/-- The table's weights as the body loads them. -/
def loadQ (arg4 : Memref sig .tc .vmem S1x512x512 .f32) (harg4 : arg4.IsWhole) (x1 : Vec F S1x512x512 .f32) : Vec F S1x512x512 .f32 :=
  View.readAt (Elt F) arg4.view (Rect.unit (s := S1x512x512) ![0, 0, 0] S1x512x512.size inb_S1x512x512_S1x512x512_0_0_0).toLoadRect (harg4.unread x1)

/-- One store of the body: the block at offset `k`, written at lanes `k` to `k + 127`. -/
def piece (i : grid0.Coords) (arg3 : Memref sig .tc .vmem S1x1x2048 .i32) (harg3 : arg3.IsWhole) (arg4 : Memref sig .tc .vmem S1x512x512 .f32) (harg4 : arg4.IsWhole)
    (x0 : Vec F S1x1x2048 .i32) (x1 : Vec F S1x512x512 .f32) (k : ℕ)
    (h : ∀ a, (![0, 0, k] : Fin 3 → ℕ) a + S1x1x128.size a ≤ S1x1x2048.size a) : View.Piece (Elt F) S1x1x2048 .i32 :=
  ⟨Rect.unit (s := S1x1x2048) ![0, 0, k] S1x1x128.size h, block i (BitVec.ofNat 32 k) (loadQ arg4 harg4 x1) (loadX arg3 harg3 x0 k h)⟩

/-- Each store lies in the block. -/
theorem piece_inb (s : Fin 16) (a) : (![0, 0, 128 * (15 - s.val)] : Fin 3 → ℕ) a + S1x1x128.size a ≤ S1x1x2048.size a := by
  revert s a; decide

/-- The body's sixteen stores, the last one first. -/
theorem pieces_eq (c : Dev nD) (i : grid0.Coords) (arg3 : Memref sig .tc .vmem S1x1x2048 .i32) (harg3 : arg3.IsWhole) (arg4 : Memref sig .tc .vmem S1x512x512 .f32) (harg4 : arg4.IsWhole)
    (arg5 : Memref sig .tc .vmem S1x1x2048 .i32) (harg5 : arg5.IsWhole)
    (x0 : Vec F S1x1x2048 .i32) (x1 : Vec F S1x512x512 .f32) (xt0 : TbBuf0 (F := F) c tbM0_0) :
    (kernelRun0_A c i arg3 harg3 arg4 harg4 arg5 harg5 x0 x1 xt0).1
      = List.ofFn fun s : Fin 16 => piece i arg3 harg3 arg4 harg4 x0 x1 (128 * (15 - s.val)) (piece_inb s) := by sl_kernel_rfl

end Cert.Block

end
-- ==== Proof.RefGroups.lean ====
/- The reference's random words: the five groups of four rounds of its cipher, each read off the run at one index. -/
module

public import proofs.«01_k».proof.Proof.RefRun
public import proofs.«01_k».proof.Proof.Threefry

@[expose] public section

set_option maxRecDepth 16384
noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The contents after `a + n` operations are what the next `n` operations leave of the contents after the first `a`. -/
theorem upto_add (ops : List (HloOp τ sig (Elt F))) (V : Valuation τ sig (Elt F)) (a n : ℕ) :
    upto ops V (a + n) = after ((ops.drop a).take n) (upto ops V a) := by
  unfold upto
  rw [List.take_add]
  generalize ops.take a = l
  induction l generalizing V with
  | nil => rfl
  | cons op l ih => exact ih _

/-- A sum of word arrays at an index. -/
theorem addi_at {s : Shape} {w : ℕ} (x y : IVec s w) (i : s.Idx) : addi x y i = IntOp.addi (x i) (y i) := rfl

/-- An exclusive or of word arrays at an index. -/
theorem xori_at {s : Shape} {w : ℕ} (x y : IVec s w) (i : s.Idx) : xori x y i = IntOp.xori (x i) (y i) := rfl

/-- A constant spread over an array is the constant everywhere. -/
theorem splat_at {s : Shape} (d : Fin 0 → Fin s.rank) (h) (x : S_.Idx → BitVec 32) (i : s.Idx) :
    broadcastInDim (s := S_) s d h x i = x (fun a => a.elim0) := congrArg x (funext fun a => a.elim0)

/-- A constant word array at an index. -/
theorem constantI_at {s : Shape} {w : ℕ} (c : BitVec w) (i : s.Idx) : constantI s w c i = c := rfl

/-- The two shifts of a word by constant amounts, joined, are its rotation. -/
theorem rot_at {s : Shape} (x : IVec s 32) (d d' : Fin 0 → Fin s.rank) (h h') (l r : BitVec 32) (hl : l.toNat < 32) (hr : r.toNat < 32) (i : s.Idx) :
    ori (Host.shli x (broadcastInDim (s := S_) s d h (constantI S_ 32 l))) (Host.shrui x (broadcastInDim (s := S_) s d' h' (constantI S_ 32 r))) i
      = Threefry.rot l r (x i) := by
  show IntOp.ori (IntOp.shli .host (x i) l) (IntOp.shrui .host (x i) r) = _
  simp only [IntOp.shli, IntOp.shrui, if_pos hl, if_pos hr, Threefry.rot]

/-- The pair of words that two buffers hold at an index. -/
def pair (V : Valuation τ sig (Elt F)) (a b : Ref sig .tc) (ha : a.ty = ⟨S16x2048x512, .i32⟩) (hb : b.ty = ⟨S16x2048x512, .i32⟩) (i : S16x2048x512.Idx) : BitVec 32 × BitVec 32 :=
  ((ha ▸ V (Proc.devRef .tc a) : (⟨S16x2048x512, .i32⟩ : BufTy).Contents (Elt F)) i, (hb ▸ V (Proc.devRef .tc b) : (⟨S16x2048x512, .i32⟩ : BufTy).Contents (Elt F)) i)

variable (V : Valuation τ sig (Elt F)) (i : S16x2048x512.Idx)

/-- The third key word is held from the start of the line. -/
theorem key_at : ∀ n ∈ [45, 89, 178, 222], (upto line.1 V n (Proc.devRef .tc main_v22) : S_.Idx → BitVec 32) (fun a => a.elim0) = Threefry.key2 := by
  intro n hn
  simp only [List.mem_cons, List.not_mem_nil, or_false] at hn
  rcases hn with rfl | rfl | rfl | rfl <;> (after_reads_simp; rfl)

/-- The pair of words after group 1. -/
theorem group_1 : pair (upto line.1 V 89) main_v56 main_v60 rfl rfl i
    = Threefry.inject 1#32 Threefry.key2 1#32 (Threefry.four (pair (upto line.1 V 45) main_v24 main_v26 rfl rfl i)) := by
  rw [← key_at V 45 (by simp), upto_add line.1 V 45 44]
  generalize upto line.1 V 45 = W
  unfold pair
  after_reads_simp
  simp (disch := decide) only [addi_at, xori_at, rot_at, splat_at, constantI_at, Threefry.inject, Threefry.four, Threefry.four', Threefry.round]
  rfl

/-- The pair of words after group 2. -/
theorem group_2 : pair (upto line.1 V 133) main_v90 main_v94 rfl rfl i
    = Threefry.inject Threefry.key2 0#32 2#32 (Threefry.four' (pair (upto line.1 V 89) main_v56 main_v60 rfl rfl i)) := by
  rw [← key_at V 89 (by simp), upto_add line.1 V 89 44]
  generalize upto line.1 V 89 = W
  unfold pair
  after_reads_simp
  simp (disch := decide) only [addi_at, xori_at, rot_at, splat_at, constantI_at, Threefry.inject, Threefry.four, Threefry.four', Threefry.round]
  rfl

/-- The pair of words after group 3. -/
theorem group_3 : pair (upto line.1 V 178) main_v124 main_v128 rfl rfl i
    = Threefry.inject 0#32 1#32 3#32 (Threefry.four (pair (upto line.1 V 133) main_v90 main_v94 rfl rfl i)) := by
  rw [upto_add line.1 V 133 45]
  generalize upto line.1 V 133 = W
  unfold pair
  after_reads_simp
  simp (disch := decide) only [addi_at, xori_at, rot_at, splat_at, constantI_at, Threefry.inject, Threefry.four, Threefry.four', Threefry.round]

/-- The pair of words after group 4. -/
theorem group_4 : pair (upto line.1 V 222) main_v158 main_v162 rfl rfl i
    = Threefry.inject 1#32 Threefry.key2 4#32 (Threefry.four' (pair (upto line.1 V 178) main_v124 main_v128 rfl rfl i)) := by
  rw [← key_at V 178 (by simp), upto_add line.1 V 178 44]
  generalize upto line.1 V 178 = W
  unfold pair
  after_reads_simp
  simp (disch := decide) only [addi_at, xori_at, rot_at, splat_at, constantI_at, Threefry.inject, Threefry.four, Threefry.four', Threefry.round]
  rfl

/-- The pair of words after group 5. -/
theorem group_5 : pair (upto line.1 V 266) main_v192 main_v196 rfl rfl i
    = Threefry.inject Threefry.key2 0#32 5#32 (Threefry.four (pair (upto line.1 V 222) main_v158 main_v162 rfl rfl i)) := by
  rw [← key_at V 222 (by simp), upto_add line.1 V 222 44]
  generalize upto line.1 V 222 = W
  unfold pair
  after_reads_simp
  simp (disch := decide) only [addi_at, xori_at, rot_at, splat_at, constantI_at, Threefry.inject, Threefry.four, Threefry.four', Threefry.round]
  rfl

/-- The counter of an index: its place in the array, row-major. -/
def counter (b r k : ℕ) : BitVec 32 :=
  IntOp.addi (IntOp.addi (IntOp.muli (BitVec.ofNat 32 b) 1048576#32) (IntOp.muli (BitVec.ofNat 32 r) 512#32)) (BitVec.ofNat 32 k)

/-- The pair of words before the first group. -/
theorem group_0 : pair (upto line.1 V 45) main_v24 main_v26 rfl rfl i
    = (0#32, IntOp.addi (counter (i 0) (i 1) (i 2)) 1#32) := by
  unfold pair
  after_reads_simp
  rfl

/-- The random word of an index: the exclusive or of the pair after the last group. -/
theorem word_at : IntOp.xori (pair (upto line.1 V 266) main_v192 main_v196 rfl rfl i).1 (pair (upto line.1 V 266) main_v192 main_v196 rfl rfl i).2
    = Threefry.word (counter (i 0) (i 1) (i 2)) := by
  have h := group_5 V i
  rw [group_4, group_3, group_2, group_1, group_0] at h
  rw [h]; rfl

end Cert.RefRun

end
-- ==== Proof.RefTail.lean ====
/- What the reference's run leaves in its result, in three steps: the logarithms of the picked probabilities, the random words, and
   the noise added to the one from the other with the place of the row's maximum taken. -/
module

public import proofs.«01_k».proof.Proof.RefGroups
public import Idealize.ShloMosaic.Lib.StableHlo.ReadAt
public import Idealize.ShloMosaic.Lib.Pointwise

@[expose] public section

set_option maxRecDepth 16384
noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F] (V : Valuation τ sig (Elt F))

/-- The random words' array as floats in [1, 2), less one, moved up by the least normal number. -/
def unitVec (w : S16x2048x512.Idx → BitVec 32) : S16x2048x512.Idx → F .f32 :=
  maximumf (broadcastInDim S16x2048x512 ![] bcast_S_S16x2048x512 (constant (F := F) S_ .f32 0x00800000#32))
    (addf (subf (bitcastToFloat (F := F) .f32 (ori (Host.shrui w (broadcastInDim S16x2048x512 ![] bcast_S_S16x2048x512 (constantI S_ 32 9#32)))
        (broadcastInDim S16x2048x512 ![] bcast_S_S16x2048x512 (constantI S_ 32 0x3F800000#32))))
      (broadcastInDim S16x2048x512 ![] bcast_S_S16x2048x512 (constant (F := F) S_ .f32 0x3F800000#32)))
      (broadcastInDim S16x2048x512 ![] bcast_S_S16x2048x512 (constant (F := F) S_ .f32 0x00800000#32)))

/-- The reference's scores, from the random words and the logarithms of the probabilities. -/
def scoreVec (w : S16x2048x512.Idx → BitVec 32) (l : S16x2048x512.Idx → F .f32) : S16x2048x512.Idx → F .f32 :=
  addf (Host.negf (Host.log (Host.negf (Host.log (unitVec w))))) l

/-- The row-wise place of the maximum, of the scores. -/
def argVec (x : S16x2048x512.Idx → F .f32) : S16x2048.Idx → BitVec 32 := fun j =>
  (Host.argReduce (reducer_argmax_f32_i32 (F := F)) x (iotaInDim S16x2048x512 32 2) (constant (F := F) S_ .f32 0xFF800000#32) (constantI S_ 32 0#32)
    reducesTo_S16x2048x512_S16x2048_d2 h_S_ j).2

/-- The last part of the line makes the result from the random words and the logarithms. -/
theorem tail : (after line.1 V (Proc.devRef .tc main_v214) : S16x2048.Idx → BitVec 32)
    = argVec (scoreVec (xori (upto line.1 V 266 (Proc.devRef .tc main_v192) : S16x2048x512.Idx → BitVec 32) (upto line.1 V 266 (Proc.devRef .tc main_v196) : S16x2048x512.Idx → BitVec 32))
        (upto line.1 V 266 (Proc.devRef .tc main_v10) : S16x2048x512.Idx → F .f32)) := by
  have e : after line.1 V = after (((line (F := F)).1.drop 266).take 27) (upto line.1 V 266) := by
    rw [← upto_add]; rfl
  rw [e]
  generalize upto line.1 V 266 = W
  after_reads_simp
  simp -implicitDefEqProofs only [TRef.toBuf, TRef.ofBuf, cast_cast, cast_eq]
  rfl

/-- The table rows that the times pick: a negative time counts from the end. -/
def rowsVec (t : S16.Idx → BitVec 32) (q : S100x512x512.Idx → F .f32) : S16x512x512.Idx → F .f32 :=
  Host.gather gather_S100x512x512_S16x1_S16x512x512_12_0_n_n_0_1_1512512 q
    (broadcastInDim S16x1 ![0] bcast_S16_S16x1_0
      (select (cmpi .slt t (broadcastInDim S16 ![] bcast_S_S16 (constantI S_ 32 0#32))) (addi t (broadcastInDim S16 ![] bcast_S_S16 (constantI S_ 32 100#32))) t))

/-- The one-hot rows of the tokens. -/
def hotVec (x : S16x2048.Idx → BitVec 32) : S16x2048x512.Idx → F .f32 :=
  uitofp (F := F) .f32 (cmpi .eq (broadcastInDim S16x2048x512 ![0, 1, 2] bcast_S16x2048x1_S16x2048x512_0_1_2 (broadcastInDim S16x2048x1 ![0, 1] bcast_S16x2048_S16x2048x1_0_1 x))
            (broadcastInDim S16x2048x512 ![0, 1, 2] bcast_S1x1x512_S16x2048x512_0_1_2 (iotaInDim S1x1x512 32 2)))

/-- The logarithms of the clipped probabilities. -/
def logVec (x : S16x2048.Idx → BitVec 32) (t : S16.Idx → BitVec 32) (q : S100x512x512.Idx → F .f32) : S16x2048x512.Idx → F .f32 :=
  Host.log (maximumf (broadcastInDim S16x2048x512 ![] bcast_S_S16x2048x512 (constant (F := F) S_ .f32 0x2B8CBCCC#32))
    (Host.dotGeneral dot_S16x2048x512_S16x512x512_S16x2048x512_2_1_1_2_0_0 none (hotVec x) (rowsVec t q)))

/-- The first part of the line makes the logarithms from the arguments. -/
theorem logs : (upto line.1 V 266 (Proc.devRef .tc main_v10) : S16x2048x512.Idx → F .f32)
    = logVec (V (Proc.devRef .tc main_arg0) : S16x2048.Idx → BitVec 32) (V (Proc.devRef .tc main_arg1) : S16.Idx → BitVec 32) (V (Proc.devRef .tc main_arg2) : S100x512x512.Idx → F .f32) := by
  after_reads_simp
  simp -implicitDefEqProofs only [TRef.toBuf, TRef.ofBuf, cast_cast, cast_eq]
  rfl

/-- The random words of all indices. -/
theorem words : xori (upto line.1 V 266 (Proc.devRef .tc main_v192) : S16x2048x512.Idx → BitVec 32) (upto line.1 V 266 (Proc.devRef .tc main_v196) : S16x2048x512.Idx → BitVec 32)
    = fun i => Threefry.word (counter (i 0) (i 1) (i 2)) := by
  funext i
  rw [← word_at V i]
  rfl

/-- What the reference leaves in its result, from its arguments. -/
def result (x : S16x2048.Idx → BitVec 32) (t : S16.Idx → BitVec 32) (q : S100x512x512.Idx → F .f32) : S16x2048.Idx → BitVec 32 :=
  argVec (scoreVec (fun i => Threefry.word (counter (i 0) (i 1) (i 2))) (logVec x t q))

/-- The whole line leaves the result of the launched arguments. -/
theorem value : (after line.1 V (Proc.devRef .tc main_v214) : S16x2048.Idx → BitVec 32)
    = result (V (Proc.devRef .tc main_arg0) : S16x2048.Idx → BitVec 32) (V (Proc.devRef .tc main_arg1) : S16.Idx → BitVec 32) (V (Proc.devRef .tc main_arg2) : S100x512x512.Idx → F .f32) := by
  rw [tail, words, logs]; rfl

end Cert.RefRun

end
-- ==== Proof.First.lean ====
/- The first place at which a row of extended reals is largest: what it is for a word to name it, that only one word does, and
   the two computations that find it (a least place among those that attain the maximum; a fold that keeps the better of two
   value-and-place pairs). -/
module

public import proofs.«01_k».proof.Proof.RefTail
public import Idealize.ShloMosaic.PureOps.Ideal.Laws
public import Idealize.ShloMosaic.PureOps.Reduce

@[expose] public section

noncomputable section

namespace Cert.First

open Idealize.ShloMosaic

/-- The word names the first place at which the row is largest. -/
def IsFirst (f : Fin 512 → EReal) (w : BitVec 32) : Prop :=
  ∃ n : Fin 512, w = BitVec.ofNat 32 n.val ∧ (∀ j, f j ≤ f n) ∧ ∀ j, f j = f n → n ≤ j

/-- Only one word names it. -/
theorem IsFirst.unique {f : Fin 512 → EReal} {w w' : BitVec 32} (h : IsFirst f w) (h' : IsFirst f w') : w = w' := by
  obtain ⟨n, rfl, hn, ln⟩ := h
  obtain ⟨k, rfl, hk, lk⟩ := h'
  have e : f n = f k := le_antisymm (hk n) (hn k)
  rw [le_antisymm (ln k e.symm) (lk n e)]

/-- The number of a lane's word. -/
theorem toNat_lane (k : Fin 512) : (BitVec.ofNat 32 k.val).toNat = k.val := by
  rw [BitVec.toNat_ofNat]; exact Nat.mod_eq_of_lt (by have := k.isLt; omega)

/-- On small words the signed order is the numbers'. -/
theorem slt_small (x y : BitVec 32) (hx : x.toNat < 2 ^ 31) (hy : y.toNat < 2 ^ 31) : x.slt y = decide (x.toNat < y.toNat) := by
  have ex : x.toInt = x.toNat := by rw [BitVec.toInt_eq_toNat_cond]; split <;> omega
  have ey : y.toInt = y.toNat := by rw [BitVec.toInt_eq_toNat_cond]; split <;> omega
  rw [BitVec.slt, ex, ey]; simp

/-- The signed least of small words is one of them, and below each. -/
theorem fold_minsi (g : Fin 512 → BitVec 32) (hg : ∀ k, (g k).toNat < 2 ^ 31) (c : BitVec 32) (hc : c.toNat < 2 ^ 31) (s : Finset (Fin 512)) :
    (s.fold IntOp.minsi c g).toNat < 2 ^ 31 ∧ (s.fold IntOp.minsi c g = c ∨ ∃ k ∈ s, s.fold IntOp.minsi c g = g k)
      ∧ ∀ k ∈ s, (s.fold IntOp.minsi c g).toNat ≤ (g k).toNat := by
  induction s using Finset.induction_on with
  | empty => simpa using hc
  | insert a s ha ih =>
    obtain ⟨h1, h2, h3⟩ := ih
    rw [Finset.fold_insert ha]
    generalize s.fold IntOp.minsi c g = m at h1 h2 h3 ⊢
    have e : IntOp.minsi (g a) m = if (g a).toNat < m.toNat then g a else m := by
      rw [IntOp.minsi, slt_small _ _ (hg a) h1]; simp
    rw [e]
    split
    · refine ⟨hg a, .inr ⟨a, by simp, rfl⟩, fun k hk => ?_⟩
      rcases Finset.mem_insert.1 hk with rfl | hk
      · exact le_refl _
      · have := h3 k hk; omega
    · refine ⟨h1, ?_, fun k hk => ?_⟩
      · rcases h2 with h2 | ⟨k, hk, e'⟩
        · exact .inl h2
        · exact .inr ⟨k, by simp [hk], e'⟩
      · rcases Finset.mem_insert.1 hk with rfl | hk
        · omega
        · exact h3 k hk

/-- The least place among those that attain the row's maximum is the first. -/
theorem of_least (f : Fin 512 → EReal) (M : EReal) (hM : M = Finset.univ.fold max ⊥ f) (g : Fin 512 → BitVec 32)
    (hg : ∀ k, g k = if f k = M then BitVec.ofNat 32 k.val else 512#32) : IsFirst f (Finset.univ.fold IntOp.minsi 2147483647#32 g) := by
  have le (k : Fin 512) : f k ≤ M := by
    rw [hM]; exact (Finset.le_fold_max (f k)).2 (.inr ⟨k, Finset.mem_univ _, le_refl _⟩)
  have att : ∃ k, f k = M := by
    obtain ⟨k, -, hk⟩ := Finset.exists_max_image Finset.univ f ⟨0, Finset.mem_univ _⟩
    refine ⟨k, le_antisymm (le k) ?_⟩
    rw [hM]; exact (Finset.fold_max_le _).2 ⟨bot_le, fun x hx => hk x hx⟩
  have small (k : Fin 512) : (g k).toNat < 2 ^ 31 := by
    rw [hg]; split
    · rw [toNat_lane]; have := k.isLt; omega
    · decide
  obtain ⟨-, h2, h3⟩ := fold_minsi g small 2147483647#32 (by decide) Finset.univ
  generalize Finset.univ.fold IntOp.minsi 2147483647#32 g = w at h2 h3 ⊢
  have low (k : Fin 512) (hk : f k = M) : w.toNat ≤ k.val := by
    have := h3 k (Finset.mem_univ _)
    rwa [hg, if_pos hk, toNat_lane] at this
  obtain ⟨n, hn⟩ := att
  rcases h2 with rfl | ⟨k, -, rfl⟩
  · have := low n hn; have := n.isLt; simp at *; omega
  · by_cases e : f k = M
    · refine ⟨k, by rw [hg, if_pos e], fun j => e ▸ le j, fun j hj => ?_⟩
      have := low j (hj.trans e)
      rwa [hg, if_pos e, toNat_lane] at this
    · have := low n hn; rw [hg, if_neg e] at this; have := n.isLt; simp at *; omega

/-- One pair is at least as good as another: a larger value, or the same value no later. -/
def Better (p q : EReal × BitVec 32) : Prop := q.1 < p.1 ∨ (q.1 = p.1 ∧ p.2.toNat ≤ q.2.toNat)

/-- Every pair is as good as itself. -/
theorem Better.refl (p : EReal × BitVec 32) : Better p p := .inr ⟨rfl, le_refl _⟩

/-- Of three pairs. -/
theorem Better.trans {p q r : EReal × BitVec 32} (h : Better p q) (h' : Better q r) : Better p r := by
  rcases h with h | ⟨h, l⟩ <;> rcases h' with h' | ⟨h', l'⟩
  · exact .inl (h'.trans h)
  · exact .inl (h' ▸ h)
  · exact .inl (h ▸ h')
  · exact .inr ⟨h'.trans h, l.trans l'⟩

/-- The reference's reducer keeps the better of two pairs. -/
theorem reducer_spec (p q : EReal × BitVec 32) (hp : p.2.toNat < 2 ^ 31) (hq : q.2.toNat < 2 ^ 31) :
    (Cert.ReferenceIdeal.reducer_argmax_f32_i32 (F := Ideal) p q = p ∨ Cert.ReferenceIdeal.reducer_argmax_f32_i32 (F := Ideal) p q = q)
      ∧ Better (Cert.ReferenceIdeal.reducer_argmax_f32_i32 (F := Ideal) p q) p ∧ Better (Cert.ReferenceIdeal.reducer_argmax_f32_i32 (F := Ideal) p q) q := by
  obtain ⟨a, i⟩ := p
  obtain ⟨b, j⟩ := q
  have e : Cert.ReferenceIdeal.reducer_argmax_f32_i32 (F := Ideal) (a, i) (b, j)
      = if b < a then (a, i) else if a = b then (if i.toNat < j.toNat then (a, i) else (b, j)) else (b, j) := by
    have s := slt_small i j hp hq
    unfold Cert.ReferenceIdeal.reducer_argmax_f32_i32
    simp only [Ideal.cmpf_def, Ideal.cmp, IntOp.cmpi, s, IntOp.ori, IntOp.andi, Scalar.select]
    rcases lt_trichotomy a b with h | h | h
    · simp [h.not_gt, h.ne]
    · subst h; by_cases l : i.toNat < j.toNat <;> simp [l]
    · simp [h, h.ne']
  rw [e]
  rcases lt_trichotomy a b with h | h | h
  · rw [if_neg h.not_gt, if_neg h.ne]; exact ⟨.inr rfl, .inl h, Better.refl _⟩
  · subst h
    rw [if_neg (lt_irrefl _), if_pos rfl]
    split
    · exact ⟨.inl rfl, Better.refl _, .inr ⟨rfl, by simpa using le_of_lt ‹_›⟩⟩
    · exact ⟨.inr rfl, .inr ⟨rfl, Nat.le_of_not_lt ‹_›⟩, Better.refl _⟩
  · rw [if_pos h]; exact ⟨.inl rfl, Better.refl _, .inl h⟩

/-- A fold of the reducer ends with the best pair. -/
theorem foldl_spec (L : List (EReal × BitVec 32)) (p : EReal × BitVec 32) (hp : p.2.toNat < 2 ^ 31) (hL : ∀ q ∈ L, q.2.toNat < 2 ^ 31) :
    (L.foldl (Cert.ReferenceIdeal.reducer_argmax_f32_i32 (F := Ideal)) p = p ∨ L.foldl (Cert.ReferenceIdeal.reducer_argmax_f32_i32 (F := Ideal)) p ∈ L)
      ∧ Better (L.foldl (Cert.ReferenceIdeal.reducer_argmax_f32_i32 (F := Ideal)) p) p
      ∧ ∀ q ∈ L, Better (L.foldl (Cert.ReferenceIdeal.reducer_argmax_f32_i32 (F := Ideal)) p) q := by
  induction L generalizing p with
  | nil => exact ⟨.inl rfl, Better.refl _, fun q h => absurd h List.not_mem_nil⟩
  | cons a L ih =>
    have ha := hL a (by simp)
    obtain ⟨s1, s2, s3⟩ := reducer_spec p a hp ha
    rw [List.foldl_cons]
    obtain ⟨t1, t2, t3⟩ := ih (Cert.ReferenceIdeal.reducer_argmax_f32_i32 (F := Ideal) p a) (by rcases s1 with s1 | s1 <;> rw [s1] <;> assumption)
      (fun q h => hL q (by simp [h]))
    refine ⟨?_, t2.trans s2, fun q h => ?_⟩
    · rcases t1 with t1 | t1
      · rw [t1]; rcases s1 with s1 | s1 <;> rw [s1] <;> simp
      · exact .inr (by simp [t1])
    · rcases List.mem_cons.1 h with rfl | h
      · exact t2.trans s3
      · exact t3 q h

/-- The fold over the pairs of a row's values and places, from the least value, names the first place. -/
theorem of_foldl (f : Fin 512 → EReal) (L : List (EReal × BitVec 32)) (hL : ∀ q, q ∈ L ↔ ∃ k : Fin 512, q = (f k, BitVec.ofNat 32 k.val)) :
    IsFirst f (L.foldl (Cert.ReferenceIdeal.reducer_argmax_f32_i32 (F := Ideal)) (⊥, 0#32)).2 := by
  obtain ⟨h1, -, h3⟩ := foldl_spec L (⊥, 0#32) (by decide) (fun q hq => by
    obtain ⟨k, rfl⟩ := (hL q).1 hq
    show (BitVec.ofNat 32 k.val).toNat < _
    rw [toNat_lane]; have := k.isLt; omega)
  generalize L.foldl (Cert.ReferenceIdeal.reducer_argmax_f32_i32 (F := Ideal)) (⊥, 0#32) = p at h1 h3 ⊢
  have key (n : Fin 512) (e : p = (f n, BitVec.ofNat 32 n.val)) : IsFirst f p.2 := by
    subst e
    refine ⟨n, rfl, fun j => ?_, fun j hj => ?_⟩
    · rcases h3 _ ((hL _).2 ⟨j, rfl⟩) with h | ⟨h, -⟩
      · exact le_of_lt h
      · exact le_of_eq h
    · rcases h3 _ ((hL _).2 ⟨j, rfl⟩) with h | ⟨-, h⟩
      · exact absurd hj (ne_of_lt h)
      · rw [toNat_lane, toNat_lane] at h; exact h
  rcases h1 with rfl | h1
  · refine key 0 (Prod.ext ?_ rfl)
    rcases h3 _ ((hL _).2 ⟨0, rfl⟩) with h | ⟨h, -⟩
    · exact absurd h not_lt_bot
    · exact h.symm
  · obtain ⟨k, e⟩ := (hL p).1 h1
    exact key k e

/-- A sum against a row that is one at lane `n` and zero elsewhere is the entry at lane `n`. -/
theorem pick (c g : Fin 512 → EReal) (n : ℕ) (hn : n < 512) (hc : ∀ j, c j = if j.val = n then 1 else 0) : (∑ j, c j * g j) = g ⟨n, hn⟩ := by
  rw [Finset.sum_eq_single (⟨n, hn⟩ : Fin 512)]
  · rw [hc, if_pos rfl, one_mul]
  · intro j _ hj
    rw [hc, if_neg (fun e => hj (Fin.ext e)), zero_mul]
  · exact fun h => absurd (Finset.mem_univ _) h

/-- A word of fewer than 512 equals a lane's word exactly at that lane. -/
theorem eq_lane (w : BitVec 32) (hw : w.toNat < 512) (j : Fin 512) : (w = BitVec.ofNat 32 j.val) ↔ j.val = w.toNat := by
  have hj := j.isLt
  rw [← BitVec.toNat_inj, BitVec.toNat_ofNat, Nat.mod_eq_of_lt (by omega)]
  exact eq_comm

/-- The comparison's bit. -/
theorem lane_bit (w : BitVec 32) (hw : w.toNat < 512) (j : Fin 512) :
    IntOp.cmpi .eq w (BitVec.ofNat 32 j.val) = if j.val = w.toNat then 1#1 else 0#1 := by
  unfold IntOp.cmpi
  by_cases h : w = BitVec.ofNat 32 j.val
  · rw [if_pos ((eq_lane w hw j).1 h), ← h]; simp
  · rw [if_neg (fun q => h ((eq_lane w hw j).2 q))]
    show BitVec.ofBool (w == BitVec.ofNat 32 j.val) = 0#1
    rw [beq_eq_false_iff_ne.mpr h]; rfl

/-- The comparison's bit, widened and read as a number. -/
theorem hot_signed (w : BitVec 32) (hw : w.toNat < 512) (j : Fin 512) :
    (((BitVec.setWidth 32 (IntOp.cmpi .eq w (BitVec.ofNat 32 j.val))).toInt : ℝ) : EReal) = if j.val = w.toNat then 1 else 0 := by
  rw [lane_bit w hw]
  split <;> simp

/-- The comparison's bit read as a number. -/
theorem hot_unsigned (w : BitVec 32) (hw : w.toNat < 512) (j : Fin 512) :
    (((IntOp.cmpi .eq w (BitVec.ofNat 32 j.val)).toNat : ℝ) : EReal) = if j.val = w.toNat then 1 else 0 := by
  rw [lane_bit w hw]
  split <;> simp

end Cert.First

end
-- ==== Proof.Words.lean ====
/- The float words that both programs read, as extended reals. -/
module

public import Idealize.ShloMosaic.PureOps.Ideal.Laws
public import Idealize.ShloMosaic.Lib.IdealHost

@[expose] public section

noncomputable section

namespace Cert.Words

open Idealize.ShloMosaic

/-- The word of minus infinity is the least value. -/
theorem bot_word : Ideal.ofBits .f32 0xFF800000#32 = ⊥ := by simp [Ideal.ofBits, Ideal.ieee]

/-- A random word's fraction under the exponent of one, as bits: no sign, and the exponent of one. -/
theorem fields (w : BitVec 32) : (IntOp.ori (w >>> 9#32) 0x3F800000#32).extractLsb' 31 1 = 0#1
    ∧ (IntOp.ori (w >>> 9#32) 0x3F800000#32).extractLsb' 23 8 = 127#8 := by
  have h : (w >>> 9#32).toNat < 2 ^ 23 := by
    have := w.isLt
    show (w >>> (9#32).toNat).toNat < _
    rw [BitVec.toNat_ushiftRight, Nat.shiftRight_eq_div_pow]; simp; omega
  have e (a n : ℕ) : (IntOp.ori (w >>> 9#32) 0x3F800000#32).extractLsb' a n = (w >>> 9#32).extractLsb' a n ||| (0x3F800000#32).extractLsb' a n :=
    BitVec.extractLsb'_or
  have z (a n : ℕ) (ha : 23 ≤ a) : (w >>> 9#32).extractLsb' a n = 0#n := by
    apply BitVec.eq_of_toNat_eq
    rw [BitVec.extractLsb'_toNat, Nat.shiftRight_eq_div_pow, Nat.div_eq_of_lt (lt_of_lt_of_le h (Nat.pow_le_pow_right (by norm_num) ha))]
    simp
  rw [e, e, z 31 1 (by norm_num), z 23 8 (by norm_num)]
  exact ⟨by decide, by decide⟩

/-- It denotes at least one. -/
theorem one_le (w : BitVec 32) : 1 ≤ Ideal.ofBits .f32 (IntOp.ori (w >>> 9#32) 0x3F800000#32) := by
  obtain ⟨h1, h2⟩ := fields w
  have e : Ideal.ofBits .f32 (IntOp.ori (w >>> 9#32) 0x3F800000#32)
      = (((2 ^ 23 + ((IntOp.ori (w >>> 9#32) 0x3F800000#32).extractLsb' 0 23).toNat : ℕ) * (2 : ℝ) ^ (-23 : ℤ) : ℝ) : EReal) := by
    show Ideal.ieee 8 23 _ = _
    unfold Ideal.ieee
    simp only [h1, h2]
    norm_num
  rw [e, show (1 : EReal) = ((1 : ℝ) : EReal) by norm_cast, EReal.coe_le_coe_iff]
  generalize ((IntOp.ori (w >>> 9#32) 0x3F800000#32).extractLsb' 0 23).toNat = n
  have hn : (0 : ℝ) ≤ n := Nat.cast_nonneg n
  push_cast
  norm_num
  linarith

/-- Less one, it is not negative. -/
theorem unit_nonneg (w : BitVec 32) : 0 ≤ Ideal.ofBits .f32 (IntOp.ori (w >>> 9#32) 0x3F800000#32) - Ideal.ofBits .f32 0x3F800000#32 := by
  rw [Ideal.ofBits_one_f32]
  have h := one_le w
  generalize Ideal.ofBits .f32 (IntOp.ori (w >>> 9#32) 0x3F800000#32) = a at h ⊢
  calc (0 : EReal) = 1 - 1 := by rw [← EReal.coe_one, ← EReal.coe_sub]; simp
    _ ≤ a - 1 := EReal.sub_le_sub h le_rfl

/-- The uniform value of a word: its fraction, moved up by the least normal number. -/
def unit (w : BitVec 32) : EReal :=
  Ideal.ofBits .f32 (IntOp.ori (w >>> 9#32) 0x3F800000#32) - Ideal.ofBits .f32 0x3F800000#32 + Ideal.ofBits .f32 0x00800000#32

/-- It is at least the least normal number. -/
theorem le_unit (w : BitVec 32) : max (Ideal.ofBits .f32 0x00800000#32) (unit w) = unit w :=
  max_eq_right (by
    have h := add_le_add (unit_nonneg w) (le_refl (Ideal.ofBits .f32 0x00800000#32))
    rwa [zero_add] at h)

/-- The score of a word and a log-probability: the Gumbel value of the word's uniform value, added. -/
def score (w : BitVec 32) (l : EReal) : EReal := l + -Ideal.log (-Ideal.log (unit w))

end Cert.Words

end
-- ==== Proof.BlockFirst.lean ====
/- The kernel's search in a block, over the extended reals: it names the first lane at which the row's scores are largest. -/
module

public import proofs.«01_k».proof.Proof.Block
public import proofs.«01_k».proof.Proof.First
public import proofs.«01_k».proof.Proof.Words
public import Idealize.ShloMosaic.Lib.Pointwise

@[expose] public section

set_option maxRecDepth 16384

noncomputable section

namespace Cert.Block

open Idealize.ShloMosaic Idealize.ShloMosaic.TcCoe Cert.KernelIdeal Cert.KernelIdeal.Gen

/-- The row maximum, at a row of any number of rows. -/
theorem top_row {n0 : ℕ} {t : Shape} (h : (⟨2, ![n0, 512]⟩ : Shape).Reduces [1] t) (s : FVec Ideal ⟨2, ![n0, 512]⟩ .f32)
    (hφ : FKind.Formats .f32) (ha : (0xFF800000#32 : BitVec (FTy.f32).bits) = FKind.maximumf.neutral .f32 hφ) (j : t.Idx) (r : Fin n0) (hr : r.val = (j ⟨0, h.lt_r2_a1_0⟩).val) :
    multiReduction (F := Ideal) .maximumf [1] t s 0xFF800000#32 h hφ ha j = Finset.univ.fold max ⊥ fun k : Fin 512 => s (ix2 r k) := by
  refine (multiReduction_maximumf_eq_fold s _ h hφ ha j).trans ?_
  refine (h.fold_fiber_r2_a1 j _ _ s).trans ?_
  have er : r = ⟨(j ⟨0, h.lt_r2_a1_0⟩).val, Shape.coordLt (j ⟨0, h.lt_r2_a1_0⟩) h.size_r2_a1_0⟩ := Fin.ext hr
  rw [← er]
  show Finset.fold max (Ideal.ofBits .f32 0xFF800000#32) _ _ = _
  rw [Words.bot_word]

/-- The least lane that holds the row's maximum, at a row of any number of rows. -/
theorem least_row {n0 : ℕ} {t : Shape} (h : (⟨2, ![n0, 512]⟩ : Shape).Reduces [1] t) (s : FVec Ideal ⟨2, ![n0, 512]⟩ .f32)
    (g : IVec ⟨2, ![n0, 512]⟩ 32) (ha : (2147483647#32 : BitVec 32) = IKind.minsi.neutral) (j : t.Idx) (r : Fin n0) (hr : r.val = (j ⟨0, h.lt_r2_a1_0⟩).val)
    (hg : ∀ k : Fin 512, g (ix2 r k) = if s (ix2 r k) = (Finset.univ.fold max ⊥ fun k : Fin 512 => s (ix2 r k)) then BitVec.ofNat 32 k.val else 512#32) :
    First.IsFirst (fun k : Fin 512 => s (ix2 r k)) (multiReductionI .minsi [1] t g 2147483647#32 h ha j) := by
  have e : multiReductionI .minsi [1] t g 2147483647#32 h ha j = Finset.univ.fold IntOp.minsi 2147483647#32 fun k : Fin 512 => g (ix2 r k) := by
    refine (multiReductionI_eq_fold .minsi g _ h ha j).trans ?_
    refine (h.fold_fiber_r2_a1 j _ _ g).trans ?_
    have er : r = ⟨(j ⟨0, h.lt_r2_a1_0⟩).val, Shape.coordLt (j ⟨0, h.lt_r2_a1_0⟩) h.size_r2_a1_0⟩ := Fin.ext hr
    rw [← er]
    rfl
  rw [e]
  exact First.of_least _ _ rfl _ hg

/-- A lane's number where its score is the maximum, and 512 elsewhere. -/
theorem keep_equal (a b : EReal) (u v : BitVec 32) : Scalar.select (Ideal.cmp .oeq a b) u v = if a = b then u else v := by
  by_cases h : a = b
  · have e : Ideal.cmp .oeq a b = 1#1 := congrArg BitVec.ofBool (decide_eq_true h)
    rw [if_pos h, e]; rfl
  · have e : Ideal.cmp .oeq a b = 0#1 := congrArg BitVec.ofBool (decide_eq_false h)
    rw [if_neg h, e]; rfl

/-- The search at a row. -/
theorem firsts_first (s : FVec Ideal S128x512 .f32) (r : Fin 128) : First.IsFirst (fun k : Fin 512 => s (ix2 r k)) (firsts s (ix1 r)) := by
  refine least_row reduces_S128x512_S128 s _ rfl (ix1 r) r rfl fun k => ?_
  have hM : broadcastTo S128x512 (shapeCast S128x1
      (multiReduction .maximumf [1] S128 s 0xFF800000#32 reduces_S128x512_S128 (.inl rfl) rfl) shapeCasts_S128_S128x1) broadcasts_S128x1_S128x512 (ix2 r k)
      = Finset.univ.fold max ⊥ fun k : Fin 512 => s (ix2 r k) := by
    generalize hm : multiReduction (F := Ideal) .maximumf [1] S128 s 0xFF800000#32 reduces_S128x512_S128 (.inl rfl) rfl = m
    have e : broadcastTo S128x512 (shapeCast S128x1 m shapeCasts_S128_S128x1) broadcasts_S128x1_S128x512 (ix2 r k) = m (ix1 r) := by pointwise
    rw [e, ← hm]
    exact top_row _ s _ _ _ r rfl
  show Scalar.select (Ideal.cmp .oeq (s (ix2 r k)) _) (lanes (ix2 r k)) 512#32 = _
  rw [hM]
  have e1 : lanes (ix2 r k) = BitVec.ofNat 32 k.val := by unfold lanes; pointwise
  rw [e1]
  exact keep_equal _ _ _ _

/-- The log-weights at a lane: the logarithm of the weight that the row's token picks. -/
theorem logits_at (q : Vec Ideal S1x512x512 .f32) (x : Vec Ideal S1x1x128 .i32) (r : Fin 128) (k : Fin 512) (hx : (x (ix3 0 0 r)).toNat < 512) :
    logits q x (ix2 r k) = Ideal.log (q (ix3 0 ⟨(x (ix3 0 0 r)).toNat, hx⟩ k)) := by
  unfold logits
  pointwise [k0_pay3, k0_pay2]
  exact congrArg Ideal.log (First.pick _ (fun j => q (ix3 0 j k)) _ hx fun j => First.hot_signed (x (ix3 0 0 r)) hx j)

end Cert.Block

end
-- ==== Proof.BlockWords.lean ====
/- The random words of a block, lane by lane: each is the generator's word of the lane's counter. -/
module

public import proofs.«01_k».proof.Proof.Block
public import Idealize.ShloMosaic.Lib.Pointwise

@[expose] public section

set_option maxRecDepth 16384

noncomputable section

namespace Cert.Block

open Idealize.ShloMosaic Idealize.ShloMosaic.TcCoe Cert.KernelIdeal Cert.KernelIdeal.Gen

/-- The two words that a pair of vectors holds at a lane. -/
def at2 (s : IVec S128x512 32 × IVec S128x512 32) (y : S128x512.Idx) : BitVec 32 × BitVec 32 := (s.1 y, s.2 y)

/-- A rotated vector at a lane. -/
theorem rotV_at (l r : BitVec 32) (hl : l.toNat < 32) (hr : r.toNat < 32) (x : IVec S128x512 32) (y : S128x512.Idx) :
    rotV l r x y = Threefry.rot l r (x y) := by
  show IntOp.ori (IntOp.shli .vector (x y) l) (IntOp.shrui .vector (x y) r) = _
  simp only [IntOp.shli, IntOp.shrui, if_pos hl, if_pos hr, Threefry.rot]

/-- A round at a lane. -/
theorem roundV_at (l r : BitVec 32) (hl : l.toNat < 32) (hr : r.toNat < 32) (s : IVec S128x512 32 × IVec S128x512 32) (y : S128x512.Idx) :
    at2 (roundV l r s) y = Threefry.round l r (at2 s y) := by
  unfold roundV Threefry.round at2
  rw [← rotV_at l r hl hr]; rfl

/-- Four rounds at a lane. -/
theorem fourV_at (s : IVec S128x512 32 × IVec S128x512 32) (y : S128x512.Idx) : at2 (fourV s) y = Threefry.four (at2 s y) := by
  simp (disch := decide) only [fourV, roundV_at, Threefry.four]

/-- The other four rounds at a lane. -/
theorem fourV'_at (s : IVec S128x512 32 × IVec S128x512 32) (y : S128x512.Idx) : at2 (fourV' s) y = Threefry.four' (at2 s y) := by
  simp (disch := decide) only [fourV', roundV_at, Threefry.four']

/-- The opening rounds at a lane are four rounds from the words zero and `n`. -/
theorem startV_at (n : IVec S128x512 32) (y : S128x512.Idx) : at2 (startV n) y = Threefry.four (0#32, n y) := by
  have e : at2 (n, xori n (rotV 13#32 19#32 n)) y = Threefry.round 13#32 19#32 (0#32, n y) := by
    unfold at2 Threefry.round
    rw [← rotV_at 13#32 19#32 (by decide) (by decide)]
    have z : IntOp.addi 0#32 (n y) = n y := BitVec.zero_add _
    dsimp only; rw [z]; rfl
  simp (disch := decide) only [startV, roundV_at, Threefry.four, e]

/-- A key addition with the round number folded in. -/
theorem injectV_at (a b c n : BitVec 32) (h : c = b + n) (s : IVec S128x512 32 × IVec S128x512 32) (y : S128x512.Idx) :
    at2 (injectV a c s) y = Threefry.inject a b n (at2 s y) := by
  subst h
  show (_, s.2 y + (b + n)) = (_, s.2 y + b + n)
  rw [BitVec.add_assoc]; rfl

/-- The words at a lane. -/
theorem wordsV_at (n : IVec S128x512 32) (c : BitVec 32) (y : S128x512.Idx) (h : n y = IntOp.addi c 1#32) : wordsV n y = Threefry.word c := by
  have e : at2 (injectV 466688987#32 5#32 (fourV (injectV 1#32 466688991#32 (fourV' (injectV 0#32 4#32 (fourV
    (injectV 466688987#32 2#32 (fourV' (injectV 1#32 466688988#32 (startV n))))))))) ) y = Threefry.groups (0#32, n y) := by
    rw [injectV_at _ 0#32 _ 5#32 (by decide), fourV_at, injectV_at _ Threefry.key2 _ 4#32 (by decide), fourV'_at, injectV_at _ 1#32 _ 3#32 (by decide), fourV_at,
      injectV_at _ 0#32 _ 2#32 (by decide), fourV'_at, injectV_at _ Threefry.key2 _ 1#32 (by decide), startV_at]
    rfl
  unfold Threefry.word
  rw [← h, ← e]; rfl

/-- The counter of a lane: the row's number in the whole array times the lanes, plus the lane. -/
theorem counters_at (i : grid0.Coords) (off : BitVec 32) (y : S128x512.Idx) :
    counters i off y = IntOp.addi (((BitVec.ofNat 32 (i 0).val * 2048#32 + BitVec.ofNat 32 (i 1).val * 2048#32 + off) + BitVec.ofNat 32 (y 0).val) * 512#32
      + BitVec.ofNat 32 (y 1).val) 1#32 := by
  have e0 : rows y = BitVec.ofNat 32 (y 0).val := by unfold rows; pointwise
  have e1 : lanes y = BitVec.ofNat 32 (y 1).val := by unfold lanes; pointwise
  rw [← e0, ← e1]; rfl

/-- The word of a lane, with the row given as the array counts it. -/
theorem words_at (i : grid0.Coords) (k : ℕ) (y : S128x512.Idx) :
    wordsV (counters i (BitVec.ofNat 32 k)) y
      = Threefry.word (IntOp.addi (IntOp.addi (IntOp.muli (BitVec.ofNat 32 (i 0).val) 1048576#32) (IntOp.muli (BitVec.ofNat 32 (k + (y 0).val)) 512#32)) (BitVec.ofNat 32 (y 1).val)) := by
  refine wordsV_at _ _ y ((counters_at i _ y).trans (congrArg (fun w => IntOp.addi w 1#32) ?_))
  have h1 : (i 1).val = 0 := by have := (i 1).isLt; simpa using this
  show ((BitVec.ofNat 32 (i 0).val * 2048#32 + BitVec.ofNat 32 (i 1).val * 2048#32 + BitVec.ofNat 32 k) + BitVec.ofNat 32 (y 0).val) * 512#32
      + BitVec.ofNat 32 (y 1).val = BitVec.ofNat 32 (i 0).val * 1048576#32 + BitVec.ofNat 32 (k + (y 0).val) * 512#32 + BitVec.ofNat 32 (y 1).val
  rw [h1]
  generalize (i 0).val = b; generalize (y 0).val = r; generalize (y 1).val = c
  apply BitVec.eq_of_toNat_eq
  simp only [BitVec.toNat_add, BitVec.toNat_mul, BitVec.toNat_ofNat]
  omega

end Cert.Block

end
-- ==== Proof.Out.lean ====
/- What the kernel's body leaves in its output block at a lane, over the extended reals: the first category at which the lane's scores
   are largest. -/
module

public import proofs.«01_k».proof.Proof.BlockFirst
public import proofs.«01_k».proof.Proof.BlockWords
public import Idealize.ShloMosaic.Lib.Pipeline.ValueKit

@[expose] public section

set_option maxRecDepth 16384

noncomputable section

namespace Cert.Block

open Idealize.ShloMosaic Idealize.ShloMosaic.TcCoe Cert.KernelIdeal Cert.KernelIdeal.Gen

/-- The scores at a lane. -/
theorem scores_at (w : IVec S128x512 32) (l : FVec Ideal S128x512 .f32) (y : S128x512.Idx) : scores w l y = Words.score (w y) (l y) := by
  have e : scores w l y = l y + (Ideal.ofBits .f32 0x00000000#32 - Ideal.log (Ideal.ofBits .f32 0x00000000#32 - Ideal.log (Words.unit (w y)))) := rfl
  rw [e, Ideal.ofBits_zero_f32, zero_sub, zero_sub]; rfl

/-- A row of the block's result, from the row's token. -/
theorem block_first (i : grid0.Coords) (o : ℕ) (q : Vec Ideal S1x512x512 .f32) (x : Vec Ideal S1x1x128 .i32) (r : Fin 128) (hx : (x (ix3 0 0 r)).toNat < 512) :
    First.IsFirst (fun k : Fin 512 => Words.score (Threefry.word (IntOp.addi (IntOp.addi (IntOp.muli (BitVec.ofNat 32 (i 0).val) 1048576#32)
        (IntOp.muli (BitVec.ofNat 32 (o + r.val)) 512#32)) (BitVec.ofNat 32 k.val))) (Ideal.log (q (ix3 0 ⟨(x (ix3 0 0 r)).toNat, hx⟩ k))))
      (block i (BitVec.ofNat 32 o) q x (ix3 0 0 r)) := by
  have e : block i (BitVec.ofNat 32 o) q x (ix3 0 0 r) = firsts (scores (wordsV (counters i (BitVec.ofNat 32 o))) (logits q x)) (ix1 r) := by
    unfold block
    generalize firsts (scores (wordsV (counters i (BitVec.ofNat 32 o))) (logits q x)) = f
    pointwise
  rw [e]
  have h := firsts_first (scores (wordsV (counters i (BitVec.ofNat 32 o))) (logits q x)) r
  simp only [scores_at, words_at, logits_at _ _ _ _ hx] at h
  exact h

/-- A loaded token. -/
theorem loadX_at (arg3 : Memref sig .tc .vmem S1x1x2048 .i32) (harg3 : arg3.IsWhole) (x0 : Vec Ideal S1x1x2048 .i32) (k : ℕ)
    (h : ∀ a, (![0, 0, k] : Fin 3 → ℕ) a + S1x1x128.size a ≤ S1x1x2048.size a) (r : Fin 128) (y : Fin 2048) (hy : y.val = k + r.val) :
    loadX arg3 harg3 x0 k h (ix3 0 0 r) = x0 (ix3 0 0 y) := by
  unfold loadX
  rw [View.readAt_eq_ld, Memref.IsWhole.read_unread]
  refine View.ld_unit_apply_of _ _ _ _ _ (ix3 0 0 y) fun a => ?_
  match a with
  | ⟨0, _⟩ => rfl
  | ⟨1, _⟩ => rfl
  | ⟨2, _⟩ => exact hy

/-- The loaded table is the block. -/
theorem loadQ_eq (arg4 : Memref sig .tc .vmem S1x512x512 .f32) (harg4 : arg4.IsWhole) (x1 : Vec Ideal S1x512x512 .f32) : loadQ arg4 harg4 x1 = x1 := by
  unfold loadQ
  rw [View.readAt_eq_ld, Memref.IsWhole.read_unread]
  funext y
  refine View.ld_unit_apply_of _ _ _ _ _ y fun a => ?_
  match a with
  | ⟨0, _⟩ => simp
  | ⟨1, _⟩ => simp
  | ⟨2, _⟩ => simp

/-- The output block at a lane. -/
theorem out_eq (c : Dev nD) (i : grid0.Coords) (arg3 : Memref sig .tc .vmem S1x1x2048 .i32) (harg3 : arg3.IsWhole) (arg4 : Memref sig .tc .vmem S1x512x512 .f32) (harg4 : arg4.IsWhole)
    (arg5 : Memref sig .tc .vmem S1x1x2048 .i32) (harg5 : arg5.IsWhole)
    (x0 : Vec Ideal S1x1x2048 .i32) (x1 : Vec Ideal S1x512x512 .f32) (xt0 : TbBuf0 (F := Ideal) c tbM0_0) (y : Fin 2048) (hx : (x0 (ix3 0 0 y)).toNat < 512)
    (v : BitVec 32)
    (hv : First.IsFirst (fun k : Fin 512 => Words.score (Threefry.word (IntOp.addi (IntOp.addi (IntOp.muli (BitVec.ofNat 32 (i 0).val) 1048576#32)
        (IntOp.muli (BitVec.ofNat 32 y.val) 512#32)) (BitVec.ofNat 32 k.val))) (Ideal.log (x1 (ix3 0 ⟨(x0 (ix3 0 0 y)).toNat, hx⟩ k)))) v) :
    out0_A_2 c i arg3 harg3 arg4 harg4 arg5 harg5 x0 x1 xt0 (ix3 0 0 y) = v := by
  unfold out0_A_2
  rw [pieces_eq, View.read_writes_junk_eq_canon]
  unfold piece
  refine View.canon_ofFn_unit_eq_of_forall (Val := Elt Ideal) (S := S1x1x2048) (e := .i32) (fun s : Fin 16 => ![0, 0, 128 * (15 - s.val)]) S1x1x128.size piece_inb _ _ v ?_ fun s => ?_
  · have hy := y.isLt
    refine ⟨⟨15 - y.val / 128, by omega⟩, fun a => ?_⟩
    match a with
    | ⟨0, _⟩ => exact ⟨le_refl _, Nat.one_pos⟩
    | ⟨1, _⟩ => exact ⟨le_refl _, Nat.one_pos⟩
    | ⟨2, _⟩ =>
      show 128 * (15 - (15 - y.val / 128)) ≤ y.val ∧ y.val < 128 * (15 - (15 - y.val / 128)) + 128
      omega
  · intro x h
    have h2 : y.val = 128 * (15 - s.val) + (x 2).val := h 2
    have ex : x = ix3 0 0 (x 2) := by
      funext a
      match a with
      | ⟨0, _⟩ => exact Subsingleton.elim (α := Fin 1) _ _
      | ⟨1, _⟩ => exact Subsingleton.elim (α := Fin 1) _ _
      | ⟨2, _⟩ => rfl
    have el := loadX_at arg3 harg3 x0 (128 * (15 - s.val)) (piece_inb s) (x 2) y h2
    have b := block_first i (128 * (15 - s.val)) (loadQ arg4 harg4 x1) (loadX arg3 harg3 x0 (128 * (15 - s.val)) (piece_inb s)) (x 2) (by rw [el]; exact hx)
    simp only [el, loadQ_eq, ← h2] at b
    rw [ex, loadQ_eq]
    exact b.unique hv

end Cert.Block

end
-- ==== Proof.RefPoint.lean ====
/- The reference's result at an index, over the extended reals: the first category at which the row's scores are largest. -/
module

public import proofs.«01_k».proof.Proof.First
public import proofs.«01_k».proof.Proof.Words
public import proofs.«01_k».proof.Proof.Range
public import Idealize.ShloMosaic.Lib.Pointwise

@[expose] public section

set_option maxRecDepth 16384

noncomputable section

namespace Cert.RefRun

open Cert.ReferenceIdeal Cert.ReferenceIdeal.Gen Idealize.ShloMosaic Idealize.ShloMosaic.TcCoe

/-- The reducer's fold along the last of three axes of any extents, at a result index. -/
theorem argReduce_first {n0 n1 : ℕ} {t u : Shape} (h : (⟨3, ![n0, n1, 512]⟩ : Shape).ReducesTo [2] t) (hu : 0 < u.numel)
    (x : (⟨3, ![n0, n1, 512]⟩ : Shape).Idx → EReal) (y : (⟨3, ![n0, n1, 512]⟩ : Shape).Idx → BitVec 32)
    (ix : u.Idx → EReal) (iy : u.Idx → BitVec 32) (hx : ∀ i, ix i = ⊥) (hy : ∀ i, iy i = 0#32)
    (hl : ∀ a b k, y (ix3 a b k) = BitVec.ofNat 32 k.val) (j : t.Idx) (a : Fin n0) (b : Fin n1)
    (ha : a.val = (j ⟨0, h.lt_r3_a2_0⟩).val) (hb : b.val = (j ⟨1, h.lt_r3_a2_1⟩).val) :
    First.IsFirst (fun k : Fin 512 => x (ix3 a b k))
      (Host.reduce2 (reducer_argmax_f32_i32 (F := Ideal)) x y ix iy h hu j).2 := by
  rw [Host.reduce2_eq_foldl_fiber, hx, hy]
  have ea : a = ⟨(j ⟨0, h.lt_r3_a2_0⟩).val, Shape.coordLt (j ⟨0, h.lt_r3_a2_0⟩) h.size_r3_a2_0⟩ := Fin.ext ha
  have eb : b = ⟨(j ⟨1, h.lt_r3_a2_1⟩).val, Shape.coordLt (j ⟨1, h.lt_r3_a2_1⟩) h.size_r3_a2_1⟩ := Fin.ext hb
  refine First.of_foldl _ _ fun q => ?_
  unfold Host.argReduceFiber
  rw [List.mem_map]
  constructor
  · rintro ⟨n, hn, rfl⟩
    obtain ⟨k, hk⟩ := (h.fiber_r3_a2 _ _).1 (of_decide_eq_true (List.mem_filter.1 hn).2)
    rw [← ea, ← eb] at hk
    exact ⟨k, by rw [← hk, hl]⟩
  · rintro ⟨k, rfl⟩
    refine ⟨(⟨3, ![n0, n1, 512]⟩ : Shape).rowMajor (ix3 a b k), List.mem_filter.2 ⟨List.mem_finRange _, decide_eq_true ?_⟩, ?_⟩
    · rw [Equiv.symm_apply_apply]; exact (h.fiber_r3_a2 _ _).2 ⟨k, by rw [← ea, ← eb]⟩
    · rw [Equiv.symm_apply_apply, hl]

/-- The same of the host's arg-max. -/
theorem argReduce_first' {n0 n1 : ℕ} {t u : Shape} (h : (⟨3, ![n0, n1, 512]⟩ : Shape).ReducesTo [2] t) (hu : 0 < u.numel)
    (x : FVec Ideal ⟨3, ![n0, n1, 512]⟩ .f32) (y : (⟨3, ![n0, n1, 512]⟩ : Shape).Idx → BitVec 32)
    (ix : FVec Ideal u .f32) (iy : u.Idx → BitVec 32) (hx : ∀ i, ix i = ⊥) (hy : ∀ i, iy i = 0#32)
    (hl : ∀ a b k, y (ix3 a b k) = BitVec.ofNat 32 k.val) (j : t.Idx) (a : Fin n0) (b : Fin n1)
    (ha : a.val = (j ⟨0, h.lt_r3_a2_0⟩).val) (hb : b.val = (j ⟨1, h.lt_r3_a2_1⟩).val) :
    First.IsFirst (fun k : Fin 512 => x (ix3 a b k))
      (Host.argReduce (reducer_argmax_f32_i32 (F := Ideal)) x y ix iy h hu j).2 := by
  rw [Ideal.argReduce_eq_reduce2]
  exact argReduce_first h hu x y ix iy hx hy hl j a b ha hb

/-- The row-wise place, as a function of the index. -/
theorem argVec_def {F : FTy → Type} [FloatOps F] (x : S16x2048x512.Idx → F .f32) :
    argVec (F := F) x = fun j => (Host.argReduce (reducer_argmax_f32_i32 (F := F)) x (iotaInDim S16x2048x512 32 2) (constant (F := F) S_ .f32 0xFF800000#32)
      (constantI S_ 32 0#32) reducesTo_S16x2048x512_S16x2048_d2 h_S_ j).2 := rfl

/-- The lane numbers' array at an index. -/
theorem iota_at (a : Fin 16) (b : Fin 2048) (k : Fin 512) : iotaInDim S16x2048x512 32 2 (ix3 a b k) = BitVec.ofNat 32 k.val := rfl

/-- The reduction starts from the least value. -/
theorem bot_at (i : S_.Idx) : constant (F := Ideal) S_ .f32 0xFF800000#32 i = ⊥ := Words.bot_word

/-- The reduction starts from lane zero. -/
theorem zero_at (i : S_.Idx) : constantI S_ 32 0#32 i = 0#32 := rfl

/-- The reference's row-wise place of the maximum is the first one. -/
theorem argVec_first (x : FVec Ideal S16x2048x512 .f32) (j : S16x2048.Idx) :
    First.IsFirst (fun k : Fin 512 => x (ix3 (j 0) (j 1) k)) (argVec (F := Ideal) x j) := by
  rw [argVec_def]
  exact argReduce_first' (n0 := 16) (n1 := 2048) reducesTo_S16x2048x512_S16x2048_d2 h_S_ x (iotaInDim S16x2048x512 32 2)
    (constant (F := Ideal) S_ .f32 0xFF800000#32) (constantI S_ 32 0#32) bot_at zero_at iota_at j (j 0) (j 1) rfl rfl

/-- The uniform value at an index. -/
theorem unitVec_at (w : S16x2048x512.Idx → BitVec 32) (i : S16x2048x512.Idx) : unitVec (F := Ideal) w i = Words.unit (w i) := by
  have e : unitVec (F := Ideal) w i = max (Ideal.ofBits .f32 0x00800000#32) (Words.unit (w i)) := rfl
  rw [e, Words.le_unit]

/-- The score at an index. -/
theorem scoreVec_at (w : S16x2048x512.Idx → BitVec 32) (l : FVec Ideal S16x2048x512 .f32) (i : S16x2048x512.Idx) :
    scoreVec (F := Ideal) w l i = Words.score (w i) (l i) := by
  have e : scoreVec (F := Ideal) w l i = -Ideal.log (-Ideal.log (unitVec (F := Ideal) w i)) + l i := rfl
  rw [e, unitVec_at, add_comm]; rfl

/-- The gathered rows at an index, for start words in range. -/
theorem gather_at (q : FVec Ideal S100x512x512 .f32) (w : S16x1.Idx → BitVec 32) (b : Fin 16) (i k : Fin 512) (T : Fin 100)
    (hw : (w (ix2 b 0)).toInt.toNat = T.val) :
    Host.gather gather_S100x512x512_S16x1_S16x512x512_12_0_n_n_0_1_1512512 q w (ix3 b i k) = q (ix3 T i k) := by
  unfold Host.gather
  congr 1
  funext a
  refine Fin.ext ?_
  show gather_S100x512x512_S16x1_S16x512x512_12_0_n_n_0_1_1512512.start (ix3 b i k) w a
      + gather_S100x512x512_S16x1_S16x512x512_12_0_n_n_0_1_1512512.batchCoord (ix3 b i k) a
      + gather_S100x512x512_S16x1_S16x512x512_12_0_n_n_0_1_1512512.offCoord (ix3 b i k) a = _
  rw [GatherDims.batchCoord_eq_zero _ _ _ List.not_mem_nil, Nat.add_zero]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  unfold GatherDims.start
  rcases ha with rfl | rfl | rfl
  · rw [GatherDims.offCoord_eq_zero _ _ _ (fun h => ((GatherDims.mem_sKept _ _).mp h).1 (List.mem_singleton.mpr rfl)),
      dif_pos (show (0 : Fin 3) ∈ gather_S100x512x512_S16x1_S16x512x512_12_0_n_n_0_1_1512512.startIndexMap from List.mem_singleton.mpr rfl)]
    have hsi : gather_S100x512x512_S16x1_S16x512x512_12_0_n_n_0_1_1512512.siIdx (ix3 b i k)
        ⟨List.idxOf (0 : Fin 3) gather_S100x512x512_S16x1_S16x512x512_12_0_n_n_0_1_1512512.startIndexMap,
          List.idxOf_lt_length_iff.2 (List.mem_singleton.mpr rfl)⟩ = ix2 b 0 := by
      funext d; refine Fin.ext ?_
      match d with
      | ⟨0, _⟩ => rfl
      | ⟨1, _⟩ => rfl
    rw [hsi, hw]
    have := T.isLt
    show min T.val (100 - 1) + 0 = T.val
    omega
  · rw [dif_neg (show (1 : Fin 3) ∉ gather_S100x512x512_S16x1_S16x512x512_12_0_n_n_0_1_1512512.startIndexMap from by decide)]
    show 0 + i.val = i.val
    omega
  · rw [dif_neg (show (2 : Fin 3) ∉ gather_S100x512x512_S16x1_S16x512x512_12_0_n_n_0_1_1512512.startIndexMap from by decide)]
    show 0 + k.val = k.val
    omega

/-- The picked rows at an index. -/
theorem rowsVec_at (t : S16.Idx → BitVec 32) (q : FVec Ideal S100x512x512 .f32) (b : Fin 16) (i k : Fin 512) (ht : (t (ix1 b)).toNat < 100) :
    rowsVec (F := Ideal) t q (ix3 b i k) = q (ix3 ⟨(t (ix1 b)).toNat, ht⟩ i k) := by
  unfold rowsVec
  refine gather_at q _ b i k _ ?_
  have e : broadcastInDim S16x1 ![0] bcast_S16_S16x1_0
      (select (cmpi .slt t (broadcastInDim S16 ![] bcast_S_S16 (constantI S_ 32 0#32))) (addi t (broadcastInDim S16 ![] bcast_S_S16 (constantI S_ 32 100#32))) t) (ix2 b 0)
      = Scalar.select (IntOp.cmpi .slt (t (ix1 b)) 0#32) (IntOp.addi (t (ix1 b)) 100#32) (t (ix1 b)) := by
    pointwise
  have n : IntOp.cmpi .slt (t (ix1 b)) 0#32 = 0#1 := by
    show BitVec.ofBool (BitVec.slt (t (ix1 b)) 0#32) = 0#1
    have : BitVec.slt (t (ix1 b)) 0#32 = false := by
      simp only [BitVec.slt, decide_eq_false_iff_not, BitVec.toInt_zero, not_lt]
      rw [BitVec.toInt_eq_toNat_of_lt (by omega)]; omega
    rw [this]; rfl
  rw [e, n]
  show (t (ix1 b)).toInt.toNat = _
  rw [BitVec.toInt_eq_toNat_of_lt (by omega)]; rfl

/-- The log-weights at an index. -/
theorem logVec_at (x : S16x2048.Idx → BitVec 32) (t : S16.Idx → BitVec 32) (q : FVec Ideal S100x512x512 .f32) (b : Fin 16) (r : Fin 2048) (k : Fin 512)
    (hx : (x (ix2 b r)).toNat < 512) (ht : (t (ix1 b)).toNat < 100) (hq : ∀ i, Ideal.ofBits .f32 0x2B8CBCCC#32 ≤ q i) :
    logVec (F := Ideal) x t q (ix3 b r k) = Ideal.log (q (ix3 ⟨(t (ix1 b)).toNat, ht⟩ ⟨(x (ix2 b r)).toNat, hx⟩ k)) := by
  have e : Host.dotGeneral dot_S16x2048x512_S16x512x512_S16x2048x512_2_1_1_2_0_0 none (hotVec (F := Ideal) x) (rowsVec (F := Ideal) t q) (ix3 b r k)
      = ∑ j : Fin 512, hotVec (F := Ideal) x (ix3 b r j) * rowsVec (F := Ideal) t q (ix3 b j k) := by
    pointwise
  have h (j : Fin 512) : hotVec (F := Ideal) x (ix3 b r j) = if j.val = (x (ix2 b r)).toNat then 1 else 0 := by
    rw [← First.hot_unsigned _ hx]
    unfold hotVec
    pointwise
    rfl
  have s : Host.dotGeneral dot_S16x2048x512_S16x512x512_S16x2048x512_2_1_1_2_0_0 none (hotVec (F := Ideal) x) (rowsVec (F := Ideal) t q) (ix3 b r k)
      = q (ix3 ⟨(t (ix1 b)).toNat, ht⟩ ⟨(x (ix2 b r)).toNat, hx⟩ k) := by
    rw [e, First.pick _ _ _ hx h, rowsVec_at _ _ _ _ _ ht]
  have l : logVec (F := Ideal) x t q (ix3 b r k) = Ideal.log (max (Ideal.ofBits .f32 0x2B8CBCCC#32)
      (Host.dotGeneral dot_S16x2048x512_S16x512x512_S16x2048x512_2_1_1_2_0_0 none (hotVec (F := Ideal) x) (rowsVec (F := Ideal) t q) (ix3 b r k))) := rfl
  rw [l, s, max_eq_right (hq _)]

end Cert.RefRun

end
-- ==== Proof.Array.lean ====
/- What the kernel's pipeline leaves in its result array, over the extended reals: the reference's categories. -/
module

public import proofs.«01_k».proof.Proof.Out
public import proofs.«01_k».proof.Proof.RefPoint
public import Idealize.ShloMosaic.Lib.Pipeline.ValueKit
public import Idealize.ShloMosaic.Lib.Pipeline.Covers

@[expose] public section

set_option maxRecDepth 16384

noncomputable section

namespace Cert.Arr

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ)

/-- A grid coordinate passed through a 32-bit word. -/
theorem coord_word (n : Nat) (h : n < 16) : (BitVec.ofNat 32 n).toNat = n := by
  rw [BitVec.toNat_ofNat]; omega

/-- The reshaped tokens, as the pipeline finds them. -/
theorem tokens_at (c : Dev nD) (b : Fin 16) (y : Fin 2048) :
    (V m c main_v0 : S16x1x2048.Idx → BitVec 32) (ix3 b 0 y) = (m ((c.tc : Thread nD τ).loc main_arg0) : S16x2048.Idx → BitVec 32) (ix2 b y) := by
  have e : (V m c main_v0 : S16x1x2048.Idx → BitVec 32)
      = shapeCast S16x1x2048 (m ((c.tc : Thread nD τ).loc main_arg0) : S16x2048.Idx → BitVec 32) Facts₀.shapeCasts_S16x2048_S16x1x2048 := by
    show StableHlo.after [reshape main_arg0 main_v0 (rfl : (.i32 : EltTy) = .i32) Facts₀.shapeCasts_S16x2048_S16x1x2048] (fun b => m (c, b)) (Proc.devRef .tc main_v0) = _
    rw [after_cons, after_nil, reshape_result]
    rfl
  rw [e]
  pointwise []

/-- Where a point's block of tokens lies. -/
theorem place0 (hO : Ok m) (t : Fin (cfgM m hO).N) (y : Fin 2048) (b : Fin 16) (hb : b.val = (grid0.coords t 0).val) :
    ((((cfgM m hO).win 0).blk t).view.emb (ix3 0 0 y : S1x1x2048.Idx) : S16x1x2048.Idx) = ix3 b 0 y := by
  have h1 : (grid0.coords t 1).val = 0 := Nat.lt_one_iff.mp (grid0.coords t 1).isLt
  funext a
  refine Fin.ext ((Pipeline.Window.rect_emb_val ((cfgM m hO).win 0) t (ix3 0 0 y : S1x1x2048.Idx) a).trans ?_)
  fin_cases a
  · show (BitVec.ofNat 32 (grid0.coords t 0).val).toNat * 1 + 0 = b.val
    rw [coord_word _ (grid0.coords t 0).isLt, hb]; omega
  · rfl
  · show (BitVec.ofNat 32 (grid0.coords t 1).val).toNat * 2048 + y.val = y.val
    rw [h1]; show 0 * 2048 + _ = _; omega

/-- Where a point's block of categories lies. -/
theorem place2 (hO : Ok m) (t : Fin (cfgM m hO).N) (y : Fin 2048) (b : Fin 16) (hb : b.val = (grid0.coords t 0).val) :
    ((((cfgM m hO).win 2).blk t).view.emb (ix3 0 0 y : S1x1x2048.Idx) : S16x1x2048.Idx) = ix3 b 0 y := by
  have h1 : (grid0.coords t 1).val = 0 := Nat.lt_one_iff.mp (grid0.coords t 1).isLt
  funext a
  refine Fin.ext ((Pipeline.Window.rect_emb_val ((cfgM m hO).win 2) t (ix3 0 0 y : S1x1x2048.Idx) a).trans ?_)
  fin_cases a
  · show (BitVec.ofNat 32 (grid0.coords t 0).val).toNat * 1 + 0 = b.val
    rw [coord_word _ (grid0.coords t 0).isLt, hb]; omega
  · rfl
  · show (BitVec.ofNat 32 (grid0.coords t 1).val).toNat * 2048 + y.val = y.val
    rw [h1]; show 0 * 2048 + _ = _; omega

/-- A point's tokens. -/
theorem iblk0_at (hO : Ok m) (c : Dev nD) (t : Fin (cfgM m hO).N) (y : Fin 2048) (b : Fin 16) (hb : b.val = (grid0.coords t 0).val) :
    (iblk m hO c 0 t : S1x1x2048.Idx → BitVec 32) (ix3 0 0 y) = (m ((c.tc : Thread nD τ).loc main_arg0) : S16x2048.Idx → BitVec 32) (ix2 b y) :=
  (congrArg (V m c main_v0 : S16x1x2048.Idx → BitVec 32) (place0 m hO t y b hb)).trans (tokens_at m c b y)

/-- The table's word at a point's batch row. -/
theorem word_at (c : Dev nD) (i : grid0.Coords) (b : Fin 16) (hb : b.val = (i 0).val) :
    ((tbl m).at 0 (Rect.unit (s := S16) ![(Scalar.indexCast (BitVec.ofNat 32 (i 0).val) : Index).toNat] S1.size (Facts₀.k0_off1_inb i)) Facts₀.numel1_S1 : BitVec 32)
      = (m ((c.tc : Thread nD τ).loc main_arg1) : S16.Idx → BitVec 32) (ix1 b) := by
  have e : (tbl m 0 : S16.Idx → BitVec 32) = (m ((c.tc : Thread nD τ).loc main_arg1) : S16.Idx → BitVec 32) :=
    (V_pre m c 0).symm.trans (V_main_arg1 m c)
  refine (congrFun e _).trans (congrArg _ ?_)
  funext a
  refine Fin.ext ?_
  fin_cases a
  show (BitVec.ofNat 32 (i 0).val).toNat + 1 * 0 = b.val
  rw [coord_word _ (i 0).isLt, hb]; omega

/-- Where a point's matrix lies. -/
theorem place1 (hO : Ok m) (c : Dev nD) (t : Fin (cfgM m hO).N) (x k : Fin 512) (b : Fin 16) (hb : b.val = (grid0.coords t 0).val) (T : Fin 100)
    (hT : ((m ((c.tc : Thread nD τ).loc main_arg1) : S16.Idx → BitVec 32) (ix1 b)).toNat = T.val) :
    ((((cfgM m hO).win 1).blk t).view.emb (ix3 0 x k : S1x512x512.Idx) : S100x512x512.Idx) = ix3 T x k := by
  funext a
  refine Fin.ext ((Pipeline.Window.rect_emb_val ((cfgM m hO).win 1) t (ix3 0 x k : S1x512x512.Idx) a).trans ?_)
  fin_cases a
  · have e := congrArg BitVec.toNat (word_at m c (grid0.coords t) b hb)
    rw [hT] at e
    show BitVec.toNat _ * 1 + 0 = T.val
    rw [Nat.mul_one, Nat.add_zero]
    exact e
  · show 0 * 512 + x.val = x.val
    omega
  · show 0 * 512 + k.val = k.val
    omega

/-- A point's matrix. -/
theorem iblk1_at (hO : Ok m) (c : Dev nD) (t : Fin (cfgM m hO).N) (x k : Fin 512) (b : Fin 16) (hb : b.val = (grid0.coords t 0).val) (T : Fin 100)
    (hT : ((m ((c.tc : Thread nD τ).loc main_arg1) : S16.Idx → BitVec 32) (ix1 b)).toNat = T.val) :
    (iblk m hO c 1 t : S1x512x512.Idx → EReal) (ix3 0 x k) = (m ((c.tc : Thread nD τ).loc main_arg2) : S100x512x512.Idx → EReal) (ix3 T x k) :=
  (congrArg (V m c main_arg2 : S100x512x512.Idx → EReal) (place1 m hO c t x k b hb T hT)).trans
    (congrFun (V_main_arg2 m c : (V m c main_arg2 : S100x512x512.Idx → EReal) = _) _)

/-- Every element of the result array lies in some point's block. -/
theorem covers (hO : Ok m) : ((cfgM m hO).win 2).Covers :=
  ((cfgM m hO).win 2).covers_of_indexMap_surj rfl (fun a => by
      fin_cases a
      · exact (by decide : 0 < 1)
      · exact (by decide : 0 < 1)
      · exact (by decide : 0 < 2048)) fun β => by
    have h0 : (β (0 : Fin 3)).val < 16 := (β (0 : Fin 3)).isLt.trans_eq (show (16 + 1 - 1) / 1 = 16 from by decide)
    have h1 : (β (1 : Fin 3)).val < 1 := (β (1 : Fin 3)).isLt.trans_eq (show (1 + 1 - 1) / 1 = 1 from by decide)
    have h2 : (β (2 : Fin 3)).val < 1 := (β (2 : Fin 3)).isLt.trans_eq (show (2048 + 2048 - 1) / 2048 = 1 from by decide)
    refine ⟨fun a => match a with | 0 => ⟨(β (0 : Fin 3)).val, h0⟩ | 1 => ⟨0, Nat.one_pos⟩, fun a => ?_⟩
    fin_cases a
    · exact coord_word _ h0
    · exact (Nat.lt_one_iff.mp h1).symm
    · exact (Nat.lt_one_iff.mp h2).symm

/-- The result array after the run. -/
theorem array (hO : Ok m) (c : Dev nD) (G : S16x1x2048.Idx → BitVec 32)
    (hG : ∀ (t : Fin (cfgM m hO).N) (y : Fin 2048) (b : Fin 16), b.val = (grid0.coords t 0).val → outsAt0 m hO c t (ix3 0 0 y) = G (ix3 b 0 y)) :
    (dats m hO 0 c).arrAt 2 (cfgM m hO).N = G := by
  refine (dats m hO 0 c).arrAt_eq_of_covers 2 _ (covers m hO) fun t hf y => ?_
  rw [after0_2]
  have key : ∀ y : S1x1x2048.Idx, outsAt0 m hO c t y = G ((((cfgM m hO).win 2).blk t).view.emb y : S16x1x2048.Idx) := fun y => by
    have hy : y = ix3 0 0 (y 2) := by
      funext a
      fin_cases a
      · exact Subsingleton.elim (α := Fin 1) _ _
      · exact Subsingleton.elim (α := Fin 1) _ _
      · rfl
    rw [hy]
    have hb : (grid0.coords t 0).val < 16 := (grid0.coords t 0).isLt
    exact (hG t (y 2) ⟨_, hb⟩ rfl).trans (congrArg G (place2 m hO t (y 2) ⟨_, hb⟩ rfl)).symm
  exact key y

end Cert.Arr

end
-- ==== Proof.Equation.lean ====
/- The kernel and the reference end with the same categories, over the extended reals. -/
module

public import proofs.«01_k».proof.Proof.Array
public import proofs.«01_k».proof.Proof.Frames

@[expose] public section

set_option maxRecDepth 16384

noncomputable section

namespace Cert.Equation

open Idealize.ShloMosaic Idealize.ShloMosaic.TcCoe Idealize.SL.Sem Idealize.ShloMosaic.StableHlo Cert.KernelIdeal Cert.KernelIdeal.Gen

/-- The reference's category of row `r` of batch entry `b` is the first lane of greatest score. -/
theorem result_first (x : S16x2048.Idx → BitVec 32) (t : S16.Idx → BitVec 32) (q : S100x512x512.Idx → EReal) (b : Fin 16) (r : Fin 2048)
    (hx : (x (ix2 b r)).toNat < 512) (ht : (t (ix1 b)).toNat < 100) (hq : ∀ i, Ideal.ofBits .f32 0x2B8CBCCC#32 ≤ q i) :
    First.IsFirst (fun k : Fin 512 => Words.score (Threefry.word (RefRun.counter b r k))
      (Ideal.log (q (ix3 ⟨(t (ix1 b)).toNat, ht⟩ ⟨(x (ix2 b r)).toNat, hx⟩ k)))) (RefRun.result (F := Ideal) x t q (ix2 b r)) := by
  have h := RefRun.argVec_first (RefRun.scoreVec (F := Ideal) (fun i => Threefry.word (RefRun.counter (i 0) (i 1) (i 2))) (RefRun.logVec (F := Ideal) x t q)) (ix2 b r)
  have e : (fun k : Fin 512 => RefRun.scoreVec (F := Ideal) (fun i => Threefry.word (RefRun.counter (i 0) (i 1) (i 2))) (RefRun.logVec (F := Ideal) x t q) (ix3 b r k))
      = fun k : Fin 512 => Words.score (Threefry.word (RefRun.counter b r k)) (Ideal.log (q (ix3 ⟨(t (ix1 b)).toNat, ht⟩ ⟨(x (ix2 b r)).toNat, hx⟩ k))) := by
    funext k
    rw [RefRun.scoreVec_at, RefRun.logVec_at x t q b r k hx ht hq]
    rfl
  exact e ▸ h

/-- A first lane of a row is one of an equal row. -/
theorem first_congr {f g : Fin 512 → EReal} {v : BitVec 32} (e : f = g) (h : First.IsFirst g v) : First.IsFirst f v := by
  rw [e]; exact h

variable (m : (ℓ : Loc nD τ sig) → Buf (Elt Ideal) ℓ)

/-- Device `c`'s tokens. -/
abbrev tokens (c : Dev nD) : S16x2048.Idx → BitVec 32 := m ((c.tc : Thread nD τ).loc main_arg0)
/-- Device `c`'s times. -/
abbrev times (c : Dev nD) : S16.Idx → BitVec 32 := m ((c.tc : Thread nD τ).loc main_arg1)
/-- Device `c`'s matrices. -/
abbrev mats (c : Dev nD) : S100x512x512.Idx → EReal := m ((c.tc : Thread nD τ).loc main_arg2)

/-- What a grid point leaves in its block of the result, at a lane. -/
theorem block_at (hO : Ok m) (c : Dev nD) (hx : ∀ i, (tokens m c i).toNat < 512) (ht : ∀ i, (times m c i).toNat < 100)
    (hq : ∀ i, Ideal.ofBits .f32 0x2B8CBCCC#32 ≤ mats m c i) (t : Fin (cfgM m hO).N) (y : Fin 2048) (b : Fin 16) (hb : b.val = (grid0.coords t 0).val) :
    outsAt0 m hO c t (ix3 0 0 y) = RefRun.result (F := Ideal) (tokens m c) (times m c) (mats m c) (ix2 b y) := by
  have e0 := Arr.iblk0_at m hO c t y b hb
  unfold outsAt0
  refine Block.out_eq c (grid0.coords t) _ _ _ _ _ _ (iblk m hO c 0 t) (iblk m hO c 1 t) _ y ((congrArg BitVec.toNat e0).trans_lt (hx _)) _ ?_
  have h := result_first (tokens m c) (times m c) (mats m c) b y (hx _) (ht _) hq
  have e : (fun k : Fin 512 => Words.score (Threefry.word (IntOp.addi (IntOp.addi (IntOp.muli (BitVec.ofNat 32 (grid0.coords t 0).val) 1048576#32)
        (IntOp.muli (BitVec.ofNat 32 y.val) 512#32)) (BitVec.ofNat 32 k.val)))
        (Ideal.log ((iblk m hO c 1 t : S1x512x512.Idx → EReal) (ix3 0 ⟨((iblk m hO c 0 t : S1x1x2048.Idx → BitVec 32) (ix3 0 0 y)).toNat, (congrArg BitVec.toNat e0).trans_lt (hx _)⟩ k))))
      = fun k : Fin 512 => Words.score (Threefry.word (RefRun.counter b y k))
        (Ideal.log (mats m c (ix3 ⟨(times m c (ix1 b)).toNat, ht _⟩ ⟨(tokens m c (ix2 b y)).toNat, hx _⟩ k))) := by
    funext k
    rw [Arr.iblk1_at m hO c t _ k b hb ⟨_, ht _⟩ rfl, ← hb]
    have ei : (⟨((iblk m hO c 0 t : S1x1x2048.Idx → BitVec 32) (ix3 0 0 y)).toNat, (congrArg BitVec.toNat e0).trans_lt (hx _)⟩ : Fin 512)
        = ⟨(tokens m c (ix2 b y)).toNat, hx _⟩ := Fin.ext (congrArg BitVec.toNat e0)
    rw [ei]
    rfl
  exact first_congr e h

/-- The last reshape, at an index. -/
theorem flat_at (f : S16x1x2048.Idx → BitVec 32) (b : Fin 16) (r : Fin 2048) :
    shapeCast S16x2048 f Facts₀.shapeCasts_S16x1x2048_S16x2048 (ix2 b r) = f (ix3 b 0 r) := by
  pointwise []

/-- The last reshape of an array of rows. -/
theorem flat_eq (R : S16x2048.Idx → BitVec 32) :
    shapeCast S16x2048 (fun i : S16x1x2048.Idx => R (ix2 (i 0) (i 2))) Facts₀.shapeCasts_S16x1x2048_S16x2048 = R := by
  funext i
  obtain ⟨b, r, rfl⟩ : ∃ (b : Fin 16) (r : Fin 2048), i = ix2 b r := ⟨i 0, i 1, by funext a; fin_cases a <;> rfl⟩
  exact flat_at _ b r

/-- The kernel's result is the last reshape of the pipeline's array. -/
theorem tail_eq (hO : Ok m) (c : Dev nD) :
    (Pipeline.afterTail pcfgs (fun _ => adm m hO) (dats m hO) 0 (V0 m) [hostOps1] c main_v2 : S16x2048.Idx → BitVec 32)
      = shapeCast S16x2048 ((dats m hO 0 c).arrAt 2 (cfgM m hO).N : S16x1x2048.Idx → BitVec 32) Facts₀.shapeCasts_S16x1x2048_S16x2048 := by
  unfold Pipeline.afterTail
  show StableHlo.after [reshape main_v1 main_v2 (rfl : (.i32 : EltTy) = .i32) Facts₀.shapeCasts_S16x1x2048_S16x2048] _ (Proc.devRef .tc main_v2) = _
  rw [after_cons, after_nil, reshape_result]
  refine congrArg (fun f : S16x1x2048.Idx → BitVec 32 => shapeCast S16x2048 f Facts₀.shapeCasts_S16x1x2048_S16x2048) ?_
  exact Pipeline.withArrays_arr spec0 (by decide) c (V0 m c) _ 2

/-- The kernel's result after the run. -/
theorem result_eq (hO : Ok m) (c : Dev nD) (hx : ∀ i, (tokens m c i).toNat < 512) (ht : ∀ i, (times m c i).toNat < 100)
    (hq : ∀ i, Ideal.ofBits .f32 0x2B8CBCCC#32 ≤ mats m c i) :
    (Pipeline.afterTail pcfgs (fun _ => adm m hO) (dats m hO) 0 (V0 m) [hostOps1] c main_v2 : S16x2048.Idx → BitVec 32)
      = RefRun.result (F := Ideal) (tokens m c) (times m c) (mats m c) := by
  refine (tail_eq m hO c).trans ?_
  rw [Arr.array m hO c (fun i => RefRun.result (F := Ideal) (tokens m c) (times m c) (mats m c) (ix2 (i 0) (i 2)))
    (fun t y b hb => block_at m hO c hx ht hq t y b hb)]
  exact flat_eq _

/-- The idealized kernel and the reference, on the same arguments in range, end with the same result. -/
theorem equal : Cert.algebraic_KernelIdeal_ReferenceIdeal_pre_in_range := fun m ρ m' ρ' hp ha => by
  have hO : Ok m := Tables.ok_ideal m (fun i => Range.time_lt' _ _ _ (hp 0).2.1 i)
  refine ⟨fun c => RefRun.result (F := Ideal) (tokens m c) (times m c) (mats m c), ?_, ?_⟩
  · refine (θ_run _ _ _).mono (fun r h c => ?_) (run_main m ρ hO)
    have hx : ∀ i, (tokens m c i).toNat < 512 := fun i => Range.token_lt _ _ _ (hp c).1 i
    have ht : ∀ i, (times m c i).toNat < 100 := fun i => Range.time_lt' _ _ _ (hp c).2.1 i
    have hq : ∀ i, Ideal.ofBits .f32 0x2B8CBCCC#32 ≤ mats m c i := fun i => Range.clip_le _ _ _ (hp c).2.2 i
    exact ⟨((h c).2 main_v2 (by decide : main_v2 ∈ Pipeline.restRefs sig spec0)).trans (result_eq m hO c hx ht hq),
      ((h c).2 main_arg0 (by decide : main_arg0 ∈ Pipeline.restRefs sig spec0)).trans (W_main_arg0 m hO (dats m hO) c),
      ((h c).2 main_arg1 (by decide : main_arg1 ∈ Pipeline.restRefs sig spec0)).trans (W_main_arg1 m hO (dats m hO) c),
      ((h c).1 1).trans (((dats m hO 0 c).arrAt_in 1 rfl _).trans (V_main_arg2 m c))⟩
  · refine (θ_run _ _ _).mono (fun r h c => ?_) (RefRun.run m' ρ')
    have e := RefRun.value (F := Ideal) (launchContents m' c)
    have e0 : (launchContents m' c (Proc.devRef .tc Cert.ReferenceIdeal.main_arg0) : S16x2048.Idx → BitVec 32) = tokens m c := (ha c).1
    have e1 : (launchContents m' c (Proc.devRef .tc Cert.ReferenceIdeal.main_arg1) : S16.Idx → BitVec 32) = times m c := (ha c).2.1
    have e2 : (launchContents m' c (Proc.devRef .tc Cert.ReferenceIdeal.main_arg2) : S100x512x512.Idx → EReal) = mats m c := (ha c).2.2
    rw [e0, e1, e2] at e
    exact ⟨(h c _).trans e, (h c _).trans (RefRun.line_args _).1, (h c _).trans (RefRun.line_args _).2.1, (h c _).trans (RefRun.line_args _).2.2⟩

end Cert.Equation

end
-- ==== Proof.lean ====
/- The certificate's proof: the kernel, its reading over the extended reals and the reference each run, leave their arguments
   alone and return every counter to zero; and the kernel's reading and the reference end with the same categories.
   The parts are proved in the modules imported below; this one only puts them side by side. -/
module

public import proofs.«01_k».proof.Defs
public import proofs.«01_k».proof.Proof.Frames
public import proofs.«01_k».proof.Proof.Equation
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_times_in_table
public import proofs.«01_k».proof.Proof.Gen.Pre_in_range
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Pre_times_in_table.Gen.facts, Cert.Pre_in_range.Gen.facts,
  Cert.Frames.printed, Cert.Frames.ideal, Cert.Frames.ideal_in_range, fun m ρ _ => Cert.Frames.reference m ρ,
  fun m ρ _ => Cert.Frames.reference m ρ, trivial, Cert.Equation.equal⟩

end Cert.Proof

end
